-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_indexed [hPre_finite_and_indexed : Cert.Pre_finite_and_indexed.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_indexed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_and_indexed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_and_indexed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_and_indexed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_and_indexed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_and_indexed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_indexed [hPre_finite_and_indexed : Cert.Pre_finite_and_indexed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_indexed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_and_indexed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_and_indexed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_and_indexed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_and_indexed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_and_indexed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_indexed [hKernelIdeal : Cert.KernelIdeal.Facts] [hPre_finite_and_indexed : Cert.Pre_finite_and_indexed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_indexed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_indexed [hReferenceIdeal : Cert.ReferenceIdeal.Facts] [hPre_finite_and_indexed : Cert.Pre_finite_and_indexed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_indexed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_and_indexed [hKernelIdeal : Cert.KernelIdeal.Facts] [hReferenceIdeal : Cert.ReferenceIdeal.Facts] [hPre_finite_and_indexed : Cert.Pre_finite_and_indexed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_indexed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_and_indexed : Cert.Pre_finite_and_indexed.Facts),
    quiescent_Kernel (hKernel := hKernel)
    ∧ quiescent_KernelIdeal (hKernelIdeal := hKernelIdeal)
    ∧ quiescent_KernelIdeal_pre_finite_and_indexed (hKernelIdeal := hKernelIdeal) (hPre_finite_and_indexed := hPre_finite_and_indexed)
    ∧ quiescent_ReferenceIdeal (hReferenceIdeal := hReferenceIdeal)
    ∧ quiescent_ReferenceIdeal_pre_finite_and_indexed (hReferenceIdeal := hReferenceIdeal) (hPre_finite_and_indexed := hPre_finite_and_indexed)
    ∧ preserves_Kernel_KernelIdeal
    ∧ algebraic_KernelIdeal_ReferenceIdeal_pre_finite_and_indexed (hKernelIdeal := hKernelIdeal) (hReferenceIdeal := hReferenceIdeal) (hPre_finite_and_indexed := hPre_finite_and_indexed)
-- ==== Pre_finite_and_indexed.lean ====
abbrev S4x4096x4096 : Shape := ⟨3, ![4, 4096, 4096]⟩
abbrev S131072x128 : Shape := ⟨2, ![131072, 128]⟩
abbrev S4096x32 : Shape := ⟨2, ![4096, 32]⟩
abbrev S128 : Shape := ⟨1, ![128]⟩
abbrev S8 : Shape := ⟨1, ![8]⟩
abbrev S4096 : Shape := ⟨1, ![4096]⟩
abbrev S_ : Shape := ⟨0, ![]⟩

class Facts : Prop where
  bcast_S_S131072x128 : S_.BroadcastsInDim S131072x128 (![] : Fin 0 → Fin S131072x128.rank)
  bcast_S_S4096x32 : S_.BroadcastsInDim S4096x32 (![] : Fin 0 → Fin S4096x32.rank)
  bcast_S_S128 : S_.BroadcastsInDim S128 (![] : Fin 0 → Fin S128.rank)
  bcast_S_S8 : S_.BroadcastsInDim S8 (![] : Fin 0 → Fin S8.rank)

variable [Facts]

def fn {F : FTy → Type} [FloatOps F] (main_arg0 : FVec F S4x4096x4096 .f32) (main_arg1 : IVec S131072x128 32) (main_arg2 : FVec F S4096x32 .f32) (main_arg3 : FVec F S128 .f32) (main_arg4 : FVec F S128 .f32) (main_arg5 : FVec F S8 .f32) (main_arg6 : FVec F S4096 .f32) : IVec S131072x128 1 × IVec S131072x128 1 × IVec S4096x32 1 × IVec S128 1 × IVec S128 1 × IVec S8 1 :=
  let main_c : IVec S_ 32 := constantI S_ 32 0#32
  let main_v0 : IVec S131072x128 32 := broadcastInDim S131072x128 ![] bcast_S_S131072x128 main_c
  let main_v1 : IVec S131072x128 1 := cmpi .sge main_arg1 main_v0
  let main_c_0 : IVec S_ 32 := constantI S_ 32 8#32
  let main_v2 : IVec S131072x128 32 := broadcastInDim S131072x128 ![] bcast_S_S131072x128 main_c_0
  let main_v3 : IVec S131072x128 1 := cmpi .slt main_arg1 main_v2
  let main_v4 : FVec F S4096x32 .f32 := Host.absf main_arg2
  let main_cst : FVec F S_ .f32 := constant S_ .f32 0x7F800000#32
  let main_v5 : FVec F S4096x32 .f32 := broadcastInDim S4096x32 ![] bcast_S_S4096x32 main_cst
  let main_v6 : IVec S4096x32 1 := cmpf .olt main_v4 main_v5
  let main_v7 : FVec F S128 .f32 := Host.absf main_arg3
  let main_cst_1 : FVec F S_ .f32 := constant S_ .f32 0x7F800000#32
  let main_v8 : FVec F S128 .f32 := broadcastInDim S128 ![] bcast_S_S128 main_cst_1
  let main_v9 : IVec S128 1 := cmpf .olt main_v7 main_v8
  let main_v10 : FVec F S128 .f32 := Host.absf main_arg4
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_v13 : FVec F S8 .f32 := Host.absf main_arg5
  let main_cst_3 : FVec F S_ .f32 := constant S_ .f32 0x7F800000#32
  let main_v14 : FVec F S8 .f32 := broadcastInDim S8 ![] bcast_S_S8 main_cst_3
  let main_v15 : IVec S8 1 := cmpf .olt main_v13 main_v14
  (main_v1, main_v3, main_v6, main_v9, main_v12, main_v15)
-- ==== Kernel.lean ====
abbrev S4x4096x4096 : Shape := ⟨3, ![4, 4096, 4096]⟩
abbrev S131072x128 : Shape := ⟨2, ![131072, 128]⟩
abbrev S4096x32 : Shape := ⟨2, ![4096, 32]⟩
abbrev S128 : Shape := ⟨1, ![128]⟩
abbrev S8 : Shape := ⟨1, ![8]⟩
abbrev S4096 : Shape := ⟨1, ![4096]⟩
abbrev S128x128 : Shape := ⟨2, ![128, 128]⟩
abbrev S_ : Shape := ⟨0, ![]⟩
abbrev S128x1 : Shape := ⟨2, ![128, 1]⟩
abbrev S1x128 : Shape := ⟨2, ![1, 128]⟩
abbrev S16384x4096 : Shape := ⟨2, ![16384, 4096]⟩
abbrev S1x4096 : Shape := ⟨2, ![1, 4096]⟩
abbrev S8192x128 : Shape := ⟨2, ![8192, 128]⟩
abbrev S256x32 : Shape := ⟨2, ![256, 32]⟩
abbrev S1 : Shape := ⟨1, ![1]⟩
abbrev S256x32x128 : Shape := ⟨3, ![256, 32, 128]⟩
abbrev S256x32x1 : Shape := ⟨3, ![256, 32, 1]⟩
abbrev S4096x32x128 : Shape := ⟨3, ![4096, 32, 128]⟩
abbrev S32x128x4096 : Shape := ⟨3, ![32, 128, 4096]⟩
abbrev S4096x4096 : Shape := ⟨2, ![4096, 4096]⟩
abbrev S256x4096 : Shape := ⟨2, ![256, 4096]⟩

abbrev nBuf : Space → Nat
  | .hbm => 27
  | .vmem => 13
  | .smem => 1
  | _ => 0

abbrev bufTy : (tb : Table) → Fin (tcTables nBuf tb) → BufTy
  | .hbm, ⟨0, _⟩ => ⟨S4x4096x4096, .f32⟩
  | .hbm, ⟨1, _⟩ => ⟨S131072x128, .i32⟩
  | .hbm, ⟨2, _⟩ => ⟨S4096x32, .f32⟩
  | .hbm, ⟨3, _⟩ => ⟨S128, .f32⟩
  | .hbm, ⟨4, _⟩ => ⟨S128, .f32⟩
  | .hbm, ⟨5, _⟩ => ⟨S8, .f32⟩
  | .hbm, ⟨6, _⟩ => ⟨S4096, .f32⟩
  | .hbm, ⟨7, _⟩ => ⟨S128x128, .f32⟩
  | .hbm, ⟨8, _⟩ => ⟨S_, .f32⟩
  | .hbm, ⟨9, _⟩ => ⟨S_, .f32⟩
  | .hbm, ⟨10, _⟩ => ⟨S128x128, .f32⟩
  | .hbm, ⟨11, _⟩ => ⟨S128x128, .f32⟩
  | .hbm, ⟨12, _⟩ => ⟨S128x1, .f32⟩
  | .hbm, ⟨13, _⟩ => ⟨S128x128, .f32⟩
  | .hbm, ⟨14, _⟩ => ⟨S128x128, .f32⟩
  | .hbm, ⟨15, _⟩ => ⟨S1x128, .f32⟩
  | .hbm, ⟨16, _⟩ => ⟨S128x128, .f32⟩
  | .hbm, ⟨17, _⟩ => ⟨S128x128, .f32⟩
  | .hbm, ⟨18, _⟩ => ⟨S128x128, .bf16⟩
  | .hbm, ⟨19, _⟩ => ⟨S16384x4096, .f32⟩
  | .hbm, ⟨20, _⟩ => ⟨S1x4096, .f32⟩
  | .hbm, ⟨21, _⟩ => ⟨S131072x128, .bf16⟩
  | .hbm, ⟨22, _⟩ => ⟨S4096x32x128, .bf16⟩
  | .hbm, ⟨23, _⟩ => ⟨S32x128x4096, .bf16⟩
  | .hbm, ⟨24, _⟩ => ⟨S4096x4096, .bf16⟩
  | .hbm, ⟨25, _⟩ => ⟨S16384x4096, .f32⟩
  | .hbm, ⟨26, _⟩ => ⟨S4x4096x4096, .f32⟩
  | .local _ .vmem, ⟨0, _⟩ => ⟨S8192x128, .i32⟩
  | .local _ .vmem, ⟨1, _⟩ => ⟨S8192x128, .i32⟩
  | .local _ .vmem, ⟨2, _⟩ => ⟨S256x32, .f32⟩
  | .local _ .vmem, ⟨3, _⟩ => ⟨S256x32, .f32⟩
  | .local _ .vmem, ⟨4, _⟩ => ⟨S128x128, .bf16⟩
  | .local _ .vmem, ⟨5, _⟩ => ⟨S8192x128, .bf16⟩
  | .local _ .vmem, ⟨6, _⟩ => ⟨S8192x128, .bf16⟩
  | .local _ .vmem, ⟨7, _⟩ => ⟨S256x4096, .f32⟩
  | .local _ .vmem, ⟨8, _⟩ => ⟨S256x4096, .f32⟩
  | .local _ .vmem, ⟨9, _⟩ => ⟨S4096x4096, .bf16⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | .local _ .smem, ⟨0, _⟩ => ⟨S8, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4x4096x4096 : Shape := ⟨3, ![4, 4096, 4096]⟩
abbrev S131072x128 : Shape := ⟨2, ![131072, 128]⟩
abbrev S4096x32 : Shape := ⟨2, ![4096, 32]⟩
abbrev S128 : Shape := ⟨1, ![128]⟩
abbrev S8 : Shape := ⟨1, ![8]⟩
abbrev S4096 : Shape := ⟨1, ![4096]⟩
abbrev S_ : Shape := ⟨0, ![]⟩
abbrev S131072x128x1 : Shape := ⟨3, ![131072, 128, 1]⟩
abbrev S131072x1 : Shape := ⟨2, ![131072, 1]⟩
abbrev S1x128 : Shape := ⟨2, ![1, 128]⟩
abbrev S131072x2x64 : Shape := ⟨3, ![131072, 2, 64]⟩
abbrev S131072x1x64 : Shape := ⟨3, ![131072, 1, 64]⟩
abbrev S131072x64 : Shape := ⟨2, ![131072, 64]⟩
abbrev S4096x4096 : Shape := ⟨2, ![4096, 4096]⟩
abbrev S1x1x4096 : Shape := ⟨3, ![1, 1, 4096]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S131072x128, .i32⟩
  | .hbm, ⟨2, _⟩ => ⟨S4096x32, .f32⟩
  | .hbm, ⟨3, _⟩ => ⟨S128, .f32⟩
  | .hbm, ⟨4, _⟩ => ⟨S128, .f32⟩
  | .hbm, ⟨5, _⟩ => ⟨S8, .f32⟩
  | .hbm, ⟨6, _⟩ => ⟨S4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .i32⟩
  | .hbm, ⟨12, _⟩ => ⟨S131072x128, .i32⟩
  | .hbm, ⟨13, _⟩ => ⟨S131072x128, .i1⟩
  | .hbm, ⟨14, _⟩ => ⟨S_, .i32⟩
  | .hbm, ⟨15, _⟩ => ⟨S131072x128, .i32⟩
  | .hbm, ⟨16, _⟩ => ⟨S131072x128, .i32⟩
  | .hbm, ⟨17, _⟩ => ⟨S131072x128, .i32⟩
  | .hbm, ⟨18, _⟩ => ⟨S131072x128x1, .i32⟩
  | .hbm, ⟨19, _⟩ => ⟨S131072x128, .f32⟩
  | .hbm, ⟨20, _⟩ => ⟨S131072x1, .f32⟩
  | .hbm, ⟨21, _⟩ => ⟨S131072x128, .f32⟩
  | .hbm, ⟨22, _⟩ => ⟨S131072x128, .f32⟩
  | .hbm, ⟨23, _⟩ => ⟨S1x128, .f32⟩
  | .hbm, ⟨24, _⟩ => ⟨S131072x128, .f32⟩
  | .hbm, ⟨25, _⟩ => ⟨S131072x128, .f32⟩
  | .hbm, ⟨26, _⟩ => ⟨S131072x2x64, .f32⟩
  | .hbm, ⟨27, _⟩ => ⟨S131072x1x64, .f32⟩
  | .hbm, ⟨28, _⟩ => ⟨S131072x64, .f32⟩
  | .hbm, ⟨29, _⟩ => ⟨S131072x1x64, .f32⟩
  | .hbm, ⟨30, _⟩ => ⟨S131072x64, .f32⟩
  | .hbm, ⟨31, _⟩ => ⟨S131072x64, .f32⟩
  | .hbm, ⟨32, _⟩ => ⟨S131072x64, .f32⟩
  | .hbm, ⟨33, _⟩ => ⟨S131072x128, .f32⟩
  | .hbm, ⟨34, _⟩ => ⟨S131072x2x64, .f32⟩
  | .hbm, ⟨35, _⟩ => ⟨S131072x1x64, .f32⟩
  | .hbm, ⟨36, _⟩ => ⟨S131072x64, .f32⟩
  | .hbm, ⟨37, _⟩ => ⟨S131072x1x64, .f32⟩
  | .hbm, ⟨38, _⟩ => ⟨S131072x64, .f32⟩
  | .hbm, ⟨39, _⟩ => ⟨S131072x64, .f32⟩
  | .hbm, ⟨40, _⟩ => ⟨S131072x64, .f32⟩
  | .hbm, ⟨41, _⟩ => ⟨S131072x128, .f32⟩
  | .hbm, ⟨42, _⟩ => ⟨S131072x2x64, .f32⟩
  | .hbm, ⟨43, _⟩ => ⟨S131072x1x64, .f32⟩
  | .hbm, ⟨44, _⟩ => ⟨S131072x64, .f32⟩
  | .hbm, ⟨45, _⟩ => ⟨S131072x1x64, .f32⟩
  | .hbm, ⟨46, _⟩ => ⟨S131072x64, .f32⟩
  | .hbm, ⟨47, _⟩ => ⟨S131072x64, .f32⟩
  | .hbm, ⟨48, _⟩ => ⟨S131072x64, .f32⟩
  | .hbm, ⟨49, _⟩ => ⟨S131072x128, .f32⟩
  | .hbm, ⟨50, _⟩ => ⟨S131072x2x64, .f32⟩
  | .hbm, ⟨51, _⟩ => ⟨S131072x1x64, .f32⟩
  | .hbm, ⟨52, _⟩ => ⟨S131072x64, .f32⟩
  | .hbm, ⟨53, _⟩ => ⟨S131072x1x64, .f32⟩
  | .hbm, ⟨54, _⟩ => ⟨S131072x64, .f32⟩
  | .hbm, ⟨55, _⟩ => ⟨S131072x64, .f32⟩
  | .hbm, ⟨56, _⟩ => ⟨S131072x64, .f32⟩
  | .hbm, ⟨57, _⟩ => ⟨S131072x128, .f32⟩
  | .hbm, ⟨58, _⟩ => ⟨S131072x2x64, .f32⟩
  | .hbm, ⟨59, _⟩ => ⟨S131072x1x64, .f32⟩
  | .hbm, ⟨60, _⟩ => ⟨S131072x64, .f32⟩
  | .hbm, ⟨61, _⟩ => ⟨S131072x1x64, .f32⟩
  | .hbm, ⟨62, _⟩ => ⟨S131072x64, .f32⟩
  | .hbm, ⟨63, _⟩ => ⟨S131072x64, .f32⟩
  | .hbm, ⟨64, _⟩ => ⟨S131072x64, .f32⟩
  | .hbm, ⟨65, _⟩ => ⟨S131072x128, .f32⟩
  | .hbm, ⟨66, _⟩ => ⟨S131072x2x64, .f32⟩
  | .hbm, ⟨67, _⟩ => ⟨S131072x1x64, .f32⟩
  | .hbm, ⟨68, _⟩ => ⟨S131072x64, .f32⟩
  | .hbm, ⟨69, _⟩ => ⟨S131072x1x64, .f32⟩
  | .hbm, ⟨70, _⟩ => ⟨S131072x64, .f32⟩
  | .hbm, ⟨71, _⟩ => ⟨S131072x64, .f32⟩
  | .hbm, ⟨72, _⟩ => ⟨S131072x64, .f32⟩
  | .hbm, ⟨73, _⟩ => ⟨S131072x128, .f32⟩
  | .hbm, ⟨74, _⟩ => ⟨S131072x2x64, .f32⟩
  | .hbm, ⟨75, _⟩ => ⟨S131072x1x64, .f32⟩
  | .hbm, ⟨76, _⟩ => ⟨S131072x64, .f32⟩
  | .hbm, ⟨77, _⟩ => ⟨S131072x1x64, .f32⟩
  | .hbm, ⟨78, _⟩ => ⟨S131072x64, .f32⟩
  | .hbm, ⟨79, _⟩ => ⟨S131072x64, .f32⟩
  | .hbm, ⟨80, _⟩ => ⟨S131072x64, .f32⟩
  | .hbm, ⟨81, _⟩ => ⟨S131072x128, .f32⟩
  | .hbm, ⟨82, _⟩ => ⟨S131072x128, .f32⟩
  | .hbm, ⟨83, _⟩ => ⟨S131072x128, .f32⟩
  | .hbm, ⟨84, _⟩ => ⟨S1x128, .f32⟩
  | .hbm, ⟨85, _⟩ => ⟨S131072x128, .f32⟩
  | .hbm, ⟨86, _⟩ => ⟨S131072x128, .f32⟩
  | .hbm, ⟨87, _⟩ => ⟨S4096x4096, .f32⟩
  | .hbm, ⟨88, _⟩ => ⟨S4x4096x4096, .f32⟩
  | .hbm, ⟨89, _⟩ => ⟨S1x1x4096, .f32⟩
  | .hbm, ⟨90, _⟩ => ⟨S4x4096x4096, .f32⟩
  | .hbm, ⟨91, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩

abbrev nD : Nat := 1
abbrev τ : Topo := Topo.v7x

variable {F : FTy → Type} [FloatOps F]
-- ==== Proof.Run.lean ====
/- The kernel's run, with its result: every execution ends with each buffer at the contents the fold through the
   program gives it; read here at the result and at the arguments. -/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, read: the result buffer at the last boundary's contents, the arguments unchanged. -/
theorem run : θ_run defs (onTc (τ := τ) (main (F := F))) ⟨m, fun _ => 0, ρ⟩ fun r => ∀ c : Dev nD,
      r.2.mem ((c.tc : Thread nD τ).loc main_v17) = W5 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v17 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Run

end
-- ==== Proof.Words.lean ====
/- The words of the kernel's host table, row after row. -/
module

public import proofs.«01_k».proof.KernelIdeal

@[expose] public section

set_option maxRecDepth 16384

noncomputable section

namespace Cert.KernelIdeal.Table

open Cert.KernelIdeal Idealize.ShloMosaic

/-- The word at row `j`, column `k`: `8.0`, `-8.0` or `0.0`. -/
def word (j k : Nat) : BitVec 32 :=
  if j < 64 then (if k = j ∨ k = j + 64 then 0x41000000#32 else 0x00000000#32)
  else if k + 64 = j then 0x41000000#32 else if k = j then 0xC1000000#32 else 0x00000000#32

/-- The table holds those words, row after row. -/
theorem lit0_eq : ∀ j k : Fin 128, lit0t (128 * j.val + k.val) = word j.val k.val := by
  decide +kernel

end Cert.KernelIdeal.Table

end
-- ==== Proof.Consts.lean ====
/- The float constants the two programs and the precondition spell, as the extended reals they denote. -/
module

public import Idealize.ShloMosaic.PureOps.Ideal

@[expose] public section

noncomputable section

namespace Cert.Consts

open Idealize.ShloMosaic

/-- `128.0`, whose root scales the transform. -/
theorem word_128 : Ideal.ofBits .f32 0x43000000#32 = ((128 : ℝ) : EReal) := by
  simp [Ideal.ofBits, Ideal.ieee, -EReal.coe_mul]; norm_num

/-- `8.0`, the table's positive entries. -/
theorem word_8 : Ideal.ofBits .f32 0x41000000#32 = ((8 : ℝ) : EReal) := by
  simp [Ideal.ofBits, Ideal.ieee, -EReal.coe_mul]; norm_num

/-- `-8.0`, the table's negative entries. -/
theorem word_neg_8 : Ideal.ofBits .f32 0xC1000000#32 = ((-8 : ℝ) : EReal) := by
  simp [Ideal.ofBits, Ideal.ieee, -EReal.coe_mul]; norm_num

/-- `0.0`, the table's other entries. -/
theorem word_0 : Ideal.ofBits .f32 0x00000000#32 = ((0 : ℝ) : EReal) := by
  simp [Ideal.ofBits, Ideal.ieee]

/-- `1.0`. -/
theorem word_1 : Ideal.ofBits .f32 0x3F800000#32 = ((1 : ℝ) : EReal) := by
  simp [Ideal.ofBits, Ideal.ieee, -EReal.coe_mul]; norm_num

/-- The positive infinity the precondition compares with. -/
theorem word_inf : Ideal.ofBits .f32 0x7F800000#32 = ⊤ := by
  simp [Ideal.ofBits, Ideal.ieee]

end Cert.Consts

end
-- ==== Proof.Table.lean ====
/- The host table of the kernel: its entry at row `j`, column `k` is the coefficient of the seven-fold half-split
   transform, eight times a sign or zero. -/
module

public import proofs.«01_k».proof.Proof.Gen.KernelIdeal
public import proofs.«01_k».proof.Proof.Words
public import proofs.«01_k».proof.Proof.Consts
public import Idealize.ShloMosaic.Lib.Pointwise

@[expose] public section

set_option maxRecDepth 16384

noncomputable section

namespace Cert.KernelIdeal.Table

open Cert.KernelIdeal Idealize.ShloMosaic

/-- The coefficient at row `j`, column `k`, as a real. -/
def coeff (j k : Nat) : ℝ :=
  if j < 64 then (if k = j ∨ k = j + 64 then 8 else 0)
  else if k + 64 = j then 8 else if k = j then -8 else 0

/-- The table at an index, as a real. -/
theorem table_apply (j k : Fin 128) :
    (FloatOps.ofBits (F := Ideal) .f32 (lit0 (S128x128.rowMajor (ix2 j k))) : EReal) = ((coeff j.val k.val : ℝ) : EReal) := by
  have e : lit0 (S128x128.rowMajor (ix2 j k)) = lit0t (128 * j.val + k.val) := by
    show lit0t (S128x128.rowMajor (ix2 j k)).val = _
    congr 1
    rw [Shape.rowMajor_val_two]
    show j.val * 128 + k.val = _
    omega
  rw [e, lit0_eq]
  show Ideal.ofBits .f32 _ = _
  unfold word coeff
  split <;> split <;> (try split) <;>
    first | exact Consts.word_8 | exact Consts.word_neg_8 | exact Consts.word_0

end Cert.KernelIdeal.Table

end
-- ==== Proof.Host.lean ====
/- The host stretches of the kernel, read at an index: what each of the two calls is handed, and what is returned. -/
module

public import proofs.«01_k».proof.Proof.Gen.KernelIdeal.Frame
public import proofs.«01_k».proof.Proof.Table
public import Idealize.ShloMosaic.Lib.StableHlo.Run
public import Idealize.ShloMosaic.Lib.Pointwise

@[expose] public section

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

variable (W : Valuation τ sig (Elt Ideal))

/-- The returned array is the second call's, its rows regrouped by batch. -/
theorem result_apply (b : Fin 4) (s n : Fin 4096) (h : b.val * 4096 + s.val < 16384) :
    (after hostOps2 W (Proc.devRef .tc main_v17) : FVec Ideal S4x4096x4096 .f32) (ix3 b s n)
      = (W (Proc.devRef .tc main_v16) : FVec Ideal S16384x4096 .f32) (ix2 ⟨b.val * 4096 + s.val, h⟩ n) := by
  have e : (after hostOps2 W (Proc.devRef .tc main_v17) : FVec Ideal S4x4096x4096 .f32)
      = shapeCast S4x4096x4096 (W (Proc.devRef .tc main_v16) : FVec Ideal S16384x4096 .f32) shapeCasts_S16384x4096_S4x4096x4096 := by
    after_results_simp <;> rfl
  rw [e]
  pointwise

/-- The second call's weights: output `n`'s row of groups, read down the input features. -/
theorem weights_apply (k n : Fin 4096) (h : n.val * 32 + k.val / 128 < 131072) :
    (after hostOps1 W (Proc.devRef .tc main_v15) : FVec Ideal S4096x4096 .bf16) (ix2 k n)
      = (W (Proc.devRef .tc main_v12) : FVec Ideal S131072x128 .bf16)
          (ix2 ⟨n.val * 32 + k.val / 128, h⟩ ⟨k.val % 128, by omega⟩) := by
  have e : (after hostOps1 W (Proc.devRef .tc main_v15) : FVec Ideal S4096x4096 .bf16)
      = shapeCast S4096x4096 (transpose S32x128x4096 [1, 2, 0] (shapeCast S4096x32x128
          (W (Proc.devRef .tc main_v12) : FVec Ideal S131072x128 .bf16) shapeCasts_S131072x128_S4096x32x128)
          transposes_S4096x32x128_S32x128x4096_1_2_0) shapeCasts_S32x128x4096_S4096x4096 := by
    after_results_simp <;> rfl
  rw [e]
  pointwise

/-- The matrix's entry from the two sign vectors. -/
def entry (s1 s2 : FVec Ideal S128 .f32) (j k : Fin 128) : EReal :=
  s2 (ix1 j) * Ideal.div ((Table.coeff j.val k.val : ℝ) : EReal) (Ideal.sqrt ((128 : ℝ) : EReal)) * s1 (ix1 k)

/-- The first call's matrix: the second signs, the coefficients over the root of 128, the first signs. -/
theorem matrix_apply (j k : Fin 128) :
    (after hostOps0 W (Proc.devRef .tc main_v9) : FVec Ideal S128x128 .bf16) (ix2 j k)
      = entry (W (Proc.devRef .tc main_arg3)) (W (Proc.devRef .tc main_arg4)) j k := by
  have e : (after hostOps0 W (Proc.devRef .tc main_v9) : FVec Ideal S128x128 .bf16)
      = (truncf (F := Ideal) .bf16 (mulf (mulf (broadcastInDim S128x128 ![0, 1] bcast_S128x1_S128x128_0_1
          (broadcastInDim S128x1 ![0] bcast_S128_S128x1_0 (W (Proc.devRef .tc main_arg4) : FVec Ideal S128 .f32)))
          (Host.divf (fun i => FloatOps.ofBits .f32 (lit0 (S128x128.rowMajor i)))
            (broadcastInDim S128x128 ![] bcast_S_S128x128 (Host.sqrt (constant S_ .f32 0x43000000#32)))))
          (broadcastInDim S128x128 ![0, 1] bcast_S1x128_S128x128_0_1
            (broadcastInDim S1x128 ![1] bcast_S128_S1x128_1 (W (Proc.devRef .tc main_arg3) : FVec Ideal S128 .f32)))) bitsLt_bf16_f32 : FVec Ideal S128x128 .bf16) := by
    after_results_simp <;> rfl
  rw [e]
  unfold entry
  rw [← Table.table_apply, ← Consts.word_128]
  pointwise

/-- The second call's rows: batch and position side by side. -/
theorem rows_apply (r : Fin 16384) (k : Fin 4096) (h : r.val / 4096 < 4) :
    (after hostOps0 W (Proc.devRef .tc main_v10) : FVec Ideal S16384x4096 .f32) (ix2 r k)
      = (W (Proc.devRef .tc main_arg0) : FVec Ideal S4x4096x4096 .f32) (ix3 ⟨r.val / 4096, h⟩ ⟨r.val % 4096, by omega⟩ k) := by
  have e : (after hostOps0 W (Proc.devRef .tc main_v10) : FVec Ideal S16384x4096 .f32)
      = shapeCast S16384x4096 (W (Proc.devRef .tc main_arg0) : FVec Ideal S4x4096x4096 .f32) shapeCasts_S4x4096x4096_S16384x4096 := by
    after_results_simp <;> rfl
  rw [e]
  pointwise

/-- The second call's bias row. -/
theorem bias_apply (n : Fin 4096) :
    (after hostOps0 W (Proc.devRef .tc main_v11) : FVec Ideal S1x4096 .f32) (ix2 0 n)
      = (W (Proc.devRef .tc main_arg6) : FVec Ideal S4096 .f32) (ix1 n) := by
  have e : (after hostOps0 W (Proc.devRef .tc main_v11) : FVec Ideal S1x4096 .f32)
      = shapeCast S1x4096 (W (Proc.devRef .tc main_arg6) : FVec Ideal S4096 .f32) shapeCasts_S4096_S1x4096 := by
    after_results_simp <;> rfl
  rw [e]
  pointwise

end Cert.KernelIdeal.Host

end
-- ==== Proof.Product.lean ====
/- What the second call of the kernel computes: each of its 64 blocks is 256 rows of one product of whole arrays,
   `x · wt + bias`. -/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Product

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The whole product: row `i 0` of `x` against column `i 1` of `wt`, plus the bias of that column. -/
def whole (x : FVec Ideal S16384x4096 .f32) (wt : FVec Ideal S4096x4096 .bf16) (b : FVec Ideal S1x4096 .f32) :
    FVec Ideal S16384x4096 .f32 := fun i =>
  (∑ k : Fin 4096, x (ix2 (i 0) k) * wt (ix2 k (i 1)) : EReal) + b (ix2 0 (i 1))

/-- One block's payload at an index: the block's row against the column, plus the bias. -/
theorem payload (x : FVec Ideal S256x4096 .f32) (wt : FVec Ideal S4096x4096 .bf16) (b : FVec Ideal S1x4096 .f32)
    (j : S256x4096.Idx) :
    k1_pay1 (F := Ideal) x wt b j = (∑ k : Fin 4096, x (ix2 (j 0) k) * wt (ix2 k (j 1)) : EReal) + b (ix2 0 (j 1)) := by
  idx_vars j
  pointwise [k1_pay1]

variable (V : (c : Dev nD) → (b : Ref sig .tc) → Buf (Elt Ideal) ((c : Thread nD τ).loc b))

/-- The windows' block indices: the rows move with the point, everything else stays. -/
theorem index_eq (t : Fin cfg1.N) :
    win1_0.index t 0 = t.val ∧ win1_0.index t 1 = 0 ∧ win1_1.index t 0 = 0 ∧ win1_1.index t 1 = 0
      ∧ win1_2.index t 0 = 0 ∧ win1_2.index t 1 = 0 ∧ win1_3.index t 0 = t.val ∧ win1_3.index t 1 = 0 := by
  revert t; decide +kernel

/-- The block of `x` at a point: 256 rows of it. -/
theorem iblk_x (c : Dev nD) (t : Fin cfg1.N) (a : Fin 256) (k : Fin 4096) (h : t.val * 256 + a.val < 16384) :
    (iblk1 V c 0 t : FVec Ideal S256x4096 .f32) (ix2 a k)
      = (V c main_v10 : FVec Ideal S16384x4096 .f32) (ix2 ⟨t.val * 256 + a.val, h⟩ k) := by
  obtain ⟨h0, h1, -⟩ := index_eq t
  unfold iblk1
  rw [View.read_apply]
  show (V c main_v10 : FVec Ideal S16384x4096 .f32) _ = _
  congr 1
  funext d
  apply Fin.ext
  match d with
  | ⟨0, _⟩ => show win1_0.index t 0 * 256 + 1 * a.val = t.val * 256 + a.val; rw [h0]; omega
  | ⟨1, _⟩ => show win1_0.index t 1 * 4096 + 1 * k.val = k.val; rw [h1]; omega

/-- The block of the weights is the whole array. -/
theorem iblk_wt (c : Dev nD) (t : Fin cfg1.N) (k l : Fin 4096) :
    (iblk1 V c 1 t : FVec Ideal S4096x4096 .bf16) (ix2 k l) = (V c main_v15 : FVec Ideal S4096x4096 .bf16) (ix2 k l) := by
  obtain ⟨-, -, h0, h1, -⟩ := index_eq t
  unfold iblk1
  rw [View.read_apply]
  show (V c main_v15 : FVec Ideal S4096x4096 .bf16) _ = _
  congr 1
  funext d
  apply Fin.ext
  match d with
  | ⟨0, _⟩ => show win1_1.index t 0 * 4096 + 1 * k.val = k.val; rw [h0]; omega
  | ⟨1, _⟩ => show win1_1.index t 1 * 4096 + 1 * l.val = l.val; rw [h1]; omega

/-- The block of the bias is the whole row. -/
theorem iblk_bias (c : Dev nD) (t : Fin cfg1.N) (l : Fin 4096) :
    (iblk1 V c 2 t : FVec Ideal S1x4096 .f32) (ix2 0 l) = (V c main_v11 : FVec Ideal S1x4096 .f32) (ix2 0 l) := by
  obtain ⟨-, -, -, -, h0, h1, -⟩ := index_eq t
  unfold iblk1
  rw [View.read_apply]
  show (V c main_v11 : FVec Ideal S1x4096 .f32) _ = _
  congr 1
  funext d
  apply Fin.ext
  match d with
  | ⟨0, _⟩ => show win1_2.index t 0 * 1 + 1 * 0 = 0; rw [h0]
  | ⟨1, _⟩ => show win1_2.index t 1 * 4096 + 1 * l.val = l.val; rw [h1]; omega

/-- The product of the arrays the call is entered with. -/
abbrev result (c : Dev nD) : Buf (Elt Ideal) ((c : Thread nD τ).loc main_v16) :=
  whole (V c main_v10) (V c main_v15) (V c main_v11)

/-- What a point writes back is its block of the whole product. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz, View.ld_unit_zero hz, View.ld_unit_zero hz, View.ld_unit_zero hz]
  funext j
  rw [View.read_apply]
  show k1_pay1 (F := Ideal) (iblk1 V c 0 t) (iblk1 V c 1 t) (iblk1 V c 2 t) (j : S256x4096.Idx) = _
  obtain ⟨a, l, rfl⟩ : ∃ (a : Fin 256) (l : Fin 4096), (j : S256x4096.Idx) = ix2 a l :=
    ⟨(j : S256x4096.Idx) 0, (j : S256x4096.Idx) 1, eq_ix2 (j : S256x4096.Idx)⟩
  have hN : cfg1.N = 64 := N_1
  have ht := t.isLt
  have ha := a.isLt
  have hb : t.val * 256 + a.val < 16384 := by omega
  obtain ⟨-, -, -, -, -, -, h0, h1⟩ := index_eq t
  have e : ((cfg1.win 3).blk t).view.emb (ix2 a l) = (ix2 ⟨t.val * 256 + a.val, hb⟩ l : S16384x4096.Idx) := by
    funext d
    apply Fin.ext
    match d with
    | ⟨0, _⟩ => show win1_3.index t 0 * 256 + 1 * a.val = t.val * 256 + a.val; rw [h0]; omega
    | ⟨1, _⟩ => show win1_3.index t 1 * 4096 + 1 * l.val = l.val; rw [h1]; omega
  show _ = whole (V c main_v10) (V c main_v15) (V c main_v11) (((cfg1.win 3).blk t).view.emb (ix2 a l))
  rw [e]
  refine (payload (iblk1 V c 0 t) (iblk1 V c 1 t) (iblk1 V c 2 t) (ix2 a l)).trans ?_
  exact congrArg₂ (fun u v : EReal => u + v)
    (Finset.sum_congr rfl fun k _ => congrArg₂ (fun u v : EReal => u * v) (iblk_x V c t a k hb) (iblk_wt V c t k l))
    (iblk_bias V c t l)

/-- The blocks tile the result. -/
theorem cover (i : S16384x4096.Idx) :
    ∃ t : Fin cfg1.N, (cfg1.win 3).flush t = true ∧ i ∈ ((cfg1.win 3).blk t).view.set := by
  have h0 : (i 0 : Nat) < 16384 := (i 0).isLt
  have h1 : (i 1 : Nat) < 4096 := (i 1).isLt
  have hN : cfg1.N = 64 := N_1
  refine ⟨⟨(i 0 : Nat) / 256, by omega⟩, flush1_3 _, ?_⟩
  generalize hT : (⟨(i 0 : Nat) / 256, _⟩ : Fin cfg1.N) = t
  have hv : t.val = (i 0 : Nat) / 256 := by rw [← hT]
  obtain ⟨-, -, -, -, -, -, e0, e1⟩ := index_eq t
  show i ∈ ((View.whole main_v16).slice (win1_3.rect t)).set
  rw [View.set_slice_whole, Rect.mem_set_unit]
  intro d
  match d with
  | ⟨0, _⟩ => show win1_3.index t 0 * 256 ≤ (i 0 : Nat) ∧ (i 0 : Nat) < win1_3.index t 0 * 256 + 256; rw [e0]; omega
  | ⟨1, _⟩ => show win1_3.index t 1 * 4096 ≤ (i 1 : Nat) ∧ (i 1 : Nat) < win1_3.index t 1 * 4096 + 4096; rw [e1]; omega

/-- So the array the second call leaves is the whole product. -/
theorem final (c : Dev nD) : (dat1 V c).arrAt 3 cfg1.N = result V c :=
  (dat1 V c).arrAt_eq_of_cover 3 (result V c) (fun t _ => flushed_eq V c t) cover

end Cert.KernelIdeal.Product

end
-- ==== Proof.Codes.lean ====
/- What one block of the first call computes, at an index: the code picked by the three low bits of the index word,
   times the norm of the row, against the 128×128 matrix. -/
module

public import proofs.«01_k».proof.Proof.Gen.KernelIdeal.Frame
public import Idealize.ShloMosaic.Lib.Pipeline.Value
public import Idealize.ShloMosaic.Lib.Pointwise
public import Idealize.ShloMosaic.Lib.Tactic

@[expose] public section

set_option maxRecDepth 16384

noncomputable section

namespace Cert.KernelIdeal.Codes

open Cert.KernelIdeal Cert.KernelIdeal.Gen Idealize.ShloMosaic Idealize.ShloMosaic.TcCoe Idealize.SL.Sem
open Idealize.ShloMosaic.Pipeline (Dat)

/-- The code an index word picks out of eight values, by its three low bits. -/
def code (p : BitVec 32) (c0 c1 c2 c3 c4 c5 c6 c7 : EReal) : EReal :=
  Scalar.select (IntOp.cmpi .eq (IntOp.andi p 4#32) 4#32)
    (Scalar.select (IntOp.cmpi .eq (IntOp.andi p 2#32) 2#32)
      (Scalar.select (IntOp.cmpi .eq (IntOp.andi p 1#32) 1#32) c7 c6)
      (Scalar.select (IntOp.cmpi .eq (IntOp.andi p 1#32) 1#32) c5 c4))
    (Scalar.select (IntOp.cmpi .eq (IntOp.andi p 2#32) 2#32)
      (Scalar.select (IntOp.cmpi .eq (IntOp.andi p 1#32) 1#32) c3 c2)
      (Scalar.select (IntOp.cmpi .eq (IntOp.andi p 1#32) 1#32) c1 c0))

/-- One entry of the dequantised weight: the row's codes times its norm, against a column of the matrix. -/
def entry (p : Fin 128 → BitVec 32) (n : EReal) (C : S8.Idx → EReal) (s : Fin 128 → EReal) : EReal :=
  ∑ x : Fin 128, code (p x) (C (ix1 0)) (C (ix1 1)) (C (ix1 2)) (C (ix1 3)) (C (ix1 4)) (C (ix1 5)) (C (ix1 6)) (C (ix1 7))
    * n * s x

/-- One block's payload at an index. -/
theorem payload (p : IVec S8192x128 32) (C : FVec Ideal S8 .f32) (n : FVec Ideal S256x32 .f32)
    (s : FVec Ideal S128x128 .bf16) (a : Fin 8192) (b : Fin 128) (h : a.val / 32 < 256) (h' : a.val % 32 < 32) :
    k0_pay1 (F := Ideal) (k0_pay2 p (C (ix1 1)) (C (ix1 0)) (C (ix1 3)) (C (ix1 2)) (C (ix1 5)) (C (ix1 4)) (C (ix1 7))
        (C (ix1 6)) n) s (ix2 a b)
      = entry (fun x => p (ix2 a x)) (n (ix2 ⟨a.val / 32, h⟩ ⟨a.val % 32, h'⟩)) C (fun x => s (ix2 x b)) := by
  pointwise [k0_pay1, k0_pay2]
  rfl

theorem hz : (![0, 0] : Fin 2 → Nat) = fun _ => 0 := funext fun a => by fin_cases a <;> rfl

/-- A one-word load out of the eight codes is that code. -/
theorem ld_code (C : Vec Ideal S8 .f32) (k : Nat) (hk : k < 8) (inb : ∀ a, (![k] : Fin 1 → Nat) a + (![1] : Fin 1 → Nat) a ≤ S8.size a)
    (x : (Rect.unit (s := S8) ![k] ![1] inb).shape.Idx) :
    View.ld (Val := Elt Ideal) C (Rect.unit (s := S8) ![k] ![1] inb) x = C (ix1 ⟨k, hk⟩) := by
  show C _ = _
  congr 1
  funext d
  apply Fin.ext
  match d with
  | ⟨0, _⟩ => show k + 1 * (x 0).val = k; have : (x 0).val < 1 := (x 0).isLt; omega

/-- The payload depends on the eight codes only through their values. -/
theorem pay2_congr (p : IVec S8192x128 32) (n : FVec Ideal S256x32 .f32) {c0 c1 c2 c3 c4 c5 c6 c7 d0 d1 d2 d3 d4 d5 d6 d7 : Elt Ideal .f32}
    (h0 : c0 = d0) (h1 : c1 = d1) (h2 : c2 = d2) (h3 : c3 = d3) (h4 : c4 = d4) (h5 : c5 = d5) (h6 : c6 = d6) (h7 : c7 = d7) :
    k0_pay2 (F := Ideal) p c1 c0 c3 c2 c5 c4 c7 c6 n = k0_pay2 p d1 d0 d3 d2 d5 d4 d7 d6 n := by
  subst h0 h1 h2 h3 h4 h5 h6 h7; rfl

/-- The body's one store is its payload of the blocks it is called with. -/
theorem out_A (c : Dev nD) (i : grid0.Coords) (arg1 : Memref sig .tc .vmem S8192x128 .i32) (harg1 : arg1.IsWhole)
    (arg2 : Memref sig .tc .vmem S256x32 .f32) (harg2 : arg2.IsWhole) (arg3 : Memref sig .tc .smem S8 .f32) (harg3 : arg3.IsWhole)
    (arg4 : Memref sig .tc .vmem S128x128 .bf16) (harg4 : arg4.IsWhole) (arg5 : Memref sig .tc .vmem S8192x128 .bf16) (harg5 : arg5.IsWhole)
    (x0 : Vec Ideal S8192x128 .i32) (x1 : Vec Ideal S256x32 .f32) (x2 : Vec Ideal S8 .f32) (x3 : Vec Ideal S128x128 .bf16) :
    out0_A_4 c i arg1 harg1 arg2 harg2 arg3 harg3 arg4 harg4 arg5 harg5 x0 x1 x2 x3
      = k0_pay1 (F := Ideal) (k0_pay2 x0 (x2 (ix1 1)) (x2 (ix1 0)) (x2 (ix1 3)) (x2 (ix1 2)) (x2 (ix1 5)) (x2 (ix1 4)) (x2 (ix1 7))
        (x2 (ix1 6)) x1) x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S8192x128) hz, View.ld_unit_zero (S := S256x32) hz, View.ld_unit_zero (S := S128x128) hz]
  exact congrArg (fun u => k0_pay1 (F := Ideal) u x3) (pay2_congr x0 x1
    (ld_code x2 0 (by decide) _ _) (ld_code x2 1 (by decide) _ _) (ld_code x2 2 (by decide) _ _) (ld_code x2 3 (by decide) _ _)
    (ld_code x2 4 (by decide) _ _) (ld_code x2 5 (by decide) _ _) (ld_code x2 6 (by decide) _ _) (ld_code x2 7 (by decide) _ _))

variable (V : (c : Dev nD) → (b : Ref sig .tc) → Buf (Elt Ideal) ((c : Thread nD τ).loc b))

/-- The windows' block indices: index words, norms and result move with the point, codes and matrix stay. -/
theorem index_eq (t : Fin cfg0.N) :
    win0_0.index t 0 = t.val ∧ win0_0.index t 1 = 0 ∧ win0_1.index t 0 = t.val ∧ win0_1.index t 1 = 0
      ∧ win0_2.index t 0 = 0 ∧ win0_3.index t 0 = 0 ∧ win0_3.index t 1 = 0
      ∧ win0_4.index t 0 = t.val ∧ win0_4.index t 1 = 0 := by
  revert t; decide +kernel

/-- The block of index words at a point: 8192 rows of them. -/
theorem iblk_word (c : Dev nD) (t : Fin cfg0.N) (a : Fin 8192) (k : Fin 128) (h : t.val * 8192 + a.val < 131072) :
    (iblk0 V c 0 t : IVec S8192x128 32) (ix2 a k)
      = (V c main_arg1 : IVec S131072x128 32) (ix2 ⟨t.val * 8192 + a.val, h⟩ k) := by
  obtain ⟨h0, h1, -⟩ := index_eq t
  unfold iblk0
  rw [View.read_apply]
  show (V c main_arg1 : IVec S131072x128 32) _ = _
  congr 1
  funext d
  apply Fin.ext
  match d with
  | ⟨0, _⟩ => show win0_0.index t 0 * 8192 + 1 * a.val = t.val * 8192 + a.val; rw [h0]; omega
  | ⟨1, _⟩ => show win0_0.index t 1 * 128 + 1 * k.val = k.val; rw [h1]; omega

/-- The block of norms at a point: 256 rows of them. -/
theorem iblk_norm (c : Dev nD) (t : Fin cfg0.N) (a : Fin 256) (g : Fin 32) (h : t.val * 256 + a.val < 4096) :
    (iblk0 V c 1 t : FVec Ideal S256x32 .f32) (ix2 a g)
      = (V c main_arg2 : FVec Ideal S4096x32 .f32) (ix2 ⟨t.val * 256 + a.val, h⟩ g) := by
  obtain ⟨-, -, h0, h1, -⟩ := index_eq t
  unfold iblk0
  rw [View.read_apply]
  show (V c main_arg2 : FVec Ideal S4096x32 .f32) _ = _
  congr 1
  funext d
  apply Fin.ext
  match d with
  | ⟨0, _⟩ => show win0_1.index t 0 * 256 + 1 * a.val = t.val * 256 + a.val; rw [h0]; omega
  | ⟨1, _⟩ => show win0_1.index t 1 * 32 + 1 * g.val = g.val; rw [h1]; omega

/-- The codes are the whole array of eight. -/
theorem iblk_code (c : Dev nD) (t : Fin cfg0.N) (k : Fin 8) :
    (iblk0 V c 2 t : FVec Ideal S8 .f32) (ix1 k) = (V c main_arg5 : FVec Ideal S8 .f32) (ix1 k) := by
  obtain ⟨-, -, -, -, h0, -⟩ := index_eq t
  unfold iblk0
  rw [View.read_apply]
  show (V c main_arg5 : FVec Ideal S8 .f32) _ = _
  congr 1
  funext d
  apply Fin.ext
  match d with
  | ⟨0, _⟩ => show win0_2.index t 0 * 8 + 1 * k.val = k.val; rw [h0]; omega

/-- The matrix is the whole array. -/
theorem iblk_mat (c : Dev nD) (t : Fin cfg0.N) (k l : Fin 128) :
    (iblk0 V c 3 t : FVec Ideal S128x128 .bf16) (ix2 k l) = (V c main_v9 : FVec Ideal S128x128 .bf16) (ix2 k l) := by
  obtain ⟨-, -, -, -, -, h0, h1, -⟩ := index_eq t
  unfold iblk0
  rw [View.read_apply]
  show (V c main_v9 : FVec Ideal S128x128 .bf16) _ = _
  congr 1
  funext d
  apply Fin.ext
  match d with
  | ⟨0, _⟩ => show win0_3.index t 0 * 128 + 1 * k.val = k.val; rw [h0]; omega
  | ⟨1, _⟩ => show win0_3.index t 1 * 128 + 1 * l.val = l.val; rw [h1]; omega

/-- The whole dequantised array: row `r` uses norm `r / 32`, `r % 32`. -/
def whole (p : IVec S131072x128 32) (n : FVec Ideal S4096x32 .f32) (C : FVec Ideal S8 .f32) (s : FVec Ideal S128x128 .bf16) :
    FVec Ideal S131072x128 .bf16 := fun i =>
  entry (fun x => p (ix2 (i 0) x))
    (n (ix2 ⟨(i 0 : Nat) / 32, by have : (i 0 : Nat) < 131072 := (i 0).isLt; omega⟩ ⟨(i 0 : Nat) % 32, by omega⟩)) C
    (fun x => s (ix2 x (i 1)))

/-- The dequantised array of what the call is entered with. -/
abbrev result (c : Dev nD) : Buf (Elt Ideal) ((c : Thread nD τ).loc main_v12) :=
  whole (V c main_arg1) (V c main_arg2) (V c main_arg5) (V c main_v9)

/-- An entry depends on its parts only. -/
theorem entry_congr {p p' : Fin 128 → BitVec 32} {n n' : EReal} {C C' : S8.Idx → EReal} {s s' : Fin 128 → EReal}
    (hp : ∀ x, p x = p' x) (hn : n = n') (hC : ∀ k : Fin 8, C (ix1 k) = C' (ix1 k)) (hs : ∀ x, s x = s' x) :
    entry p n C s = entry p' n' C' s' := by
  unfold entry
  simp only [hp, hn, hC, hs]

/-- What a point writes back is its block of the whole array. -/
theorem flushed_eq (c : Dev nD) (t : Fin cfg0.N) :
    (dat0 V c).flushed 4 t = ((cfg0.win 4).blk t).view.read (Elt Ideal) (result V c) := by
  show (cfg0.win 4).cut (grid0.coords t) ((dat0 V c).after 4 t) = _
  rw [after0_4]
  unfold outsAt0
  rw [out_A]
  funext j
  rw [View.read_apply]
  obtain ⟨a, l, rfl⟩ : ∃ (a : Fin 8192) (l : Fin 128), (j : S8192x128.Idx) = ix2 a l :=
    ⟨(j : S8192x128.Idx) 0, (j : S8192x128.Idx) 1, eq_ix2 (j : S8192x128.Idx)⟩
  have hN : cfg0.N = 16 := N_0
  have ht := t.isLt
  have ha := a.isLt
  have hb : t.val * 8192 + a.val < 131072 := by omega
  have hq : a.val / 32 < 256 := by omega
  have hr : a.val % 32 < 32 := by omega
  have hn : t.val * 256 + a.val / 32 < 4096 := by omega
  obtain ⟨-, -, -, -, -, -, -, h0, h1⟩ := index_eq t
  have e : ((cfg0.win 4).blk t).view.emb (ix2 a l) = (ix2 ⟨t.val * 8192 + a.val, hb⟩ l : S131072x128.Idx) := by
    funext d
    apply Fin.ext
    match d with
    | ⟨0, _⟩ => show win0_4.index t 0 * 8192 + 1 * a.val = t.val * 8192 + a.val; rw [h0]; omega
    | ⟨1, _⟩ => show win0_4.index t 1 * 128 + 1 * l.val = l.val; rw [h1]; omega
  show _ = whole (V c main_arg1) (V c main_arg2) (V c main_arg5) (V c main_v9) (((cfg0.win 4).blk t).view.emb (ix2 a l))
  rw [e]
  refine (payload (iblk0 V c 0 t) (iblk0 V c 2 t) (iblk0 V c 1 t) (iblk0 V c 3 t) a l hq hr).trans ?_
  refine entry_congr (fun x => iblk_word V c t a x hb) ((iblk_norm V c t _ _ hn).trans ?_) (fun k => iblk_code V c t k)
    (fun x => iblk_mat V c t x l)
  refine congrArg (V c main_arg2 : FVec Ideal S4096x32 .f32) ?_
  congr 1
  · apply Fin.ext
    show t.val * 256 + a.val / 32 = (t.val * 8192 + a.val) / 32
    omega
  · apply Fin.ext
    show a.val % 32 = (t.val * 8192 + a.val) % 32
    omega

/-- The blocks tile the result. -/
theorem cover (i : S131072x128.Idx) :
    ∃ t : Fin cfg0.N, (cfg0.win 4).flush t = true ∧ i ∈ ((cfg0.win 4).blk t).view.set := by
  have h0 : (i 0 : Nat) < 131072 := (i 0).isLt
  have h1 : (i 1 : Nat) < 128 := (i 1).isLt
  have hN : cfg0.N = 16 := N_0
  refine ⟨⟨(i 0 : Nat) / 8192, by omega⟩, flush0_4 _, ?_⟩
  generalize hT : (⟨(i 0 : Nat) / 8192, _⟩ : Fin cfg0.N) = t
  have hv : t.val = (i 0 : Nat) / 8192 := by rw [← hT]
  obtain ⟨-, -, -, -, -, -, -, e0, e1⟩ := index_eq t
  show i ∈ ((View.whole main_v12).slice (win0_4.rect t)).set
  rw [View.set_slice_whole, Rect.mem_set_unit]
  intro d
  match d with
  | ⟨0, _⟩ => show win0_4.index t 0 * 8192 ≤ (i 0 : Nat) ∧ (i 0 : Nat) < win0_4.index t 0 * 8192 + 8192; rw [e0]; omega
  | ⟨1, _⟩ => show win0_4.index t 1 * 128 ≤ (i 1 : Nat) ∧ (i 1 : Nat) < win0_4.index t 1 * 128 + 128; rw [e1]; omega

/-- So the array the first call leaves is the whole dequantised array. -/
theorem final (c : Dev nD) : (dat0 V c).arrAt 4 cfg0.N = result V c :=
  (dat0 V c).arrAt_eq_of_cover 4 (result V c) (fun t _ => flushed_eq V c t) cover

end Cert.KernelIdeal.Codes

end
-- ==== Proof.KernelResult.lean ====
/- The kernel's result, read at an index of the arguments at launch. -/
module

public import proofs.«01_k».proof.Proof.Host
public import proofs.«01_k».proof.Proof.Product
public import proofs.«01_k».proof.Proof.Codes

@[expose] public section

set_option maxRecDepth 16384

noncomputable section

namespace Cert.KernelIdeal.Result

open Cert.KernelIdeal Cert.KernelIdeal.Gen Idealize.ShloMosaic Idealize.ShloMosaic.TcCoe Idealize.SL.Sem

/-- The weight the kernel decodes for output `n` and input `k`: the codes of the group `k` falls in, scaled by that
    group's norm, against column `k % 128` of the matrix. -/
def weight (p : IVec S131072x128 32) (nm : FVec Ideal S4096x32 .f32) (s1 s2 : FVec Ideal S128 .f32)
    (C : FVec Ideal S8 .f32) (n k : Fin 4096) : EReal :=
  Codes.entry (fun j => p (ix2 ⟨n.val * 32 + k.val / 128, by omega⟩ j)) (nm (ix2 n ⟨k.val / 128, by omega⟩)) C
    (fun j => Host.entry s1 s2 j ⟨k.val % 128, by omega⟩)

/-- The kernel's result at batch `b`, position `s` and output `n`: the input's features against the decoded weights,
    and the bias. -/
def value (x : FVec Ideal S4x4096x4096 .f32) (p : IVec S131072x128 32) (nm : FVec Ideal S4096x32 .f32)
    (s1 s2 : FVec Ideal S128 .f32) (C : FVec Ideal S8 .f32) (bias : FVec Ideal S4096 .f32)
    (b : Fin 4) (s n : Fin 4096) : EReal :=
  (∑ k : Fin 4096, x (ix3 b s k) * weight p nm s1 s2 C n k : EReal) + bias (ix1 n)

variable (m : (ℓ : Loc nD τ sig) → Buf (Elt Ideal) ℓ) (ρ : Dev nD → PrngReg)

/-- What the first call leaves, of the arguments at launch and its matrix. -/
theorem first (c : Dev nD) :
    (W2 m ρ c (Proc.devRef .tc main_v12) : FVec Ideal S131072x128 .bf16)
      = Codes.whole (m ((c : Thread nD τ).loc main_arg1)) (m ((c : Thread nD τ).loc main_arg2))
          (m ((c : Thread nD τ).loc main_arg5)) (W1 m ρ c (Proc.devRef .tc main_v9)) := by
  refine (W2_arr m ρ c 4).trans ((Codes.final (V1 m ρ) c).trans ?_)
  unfold Codes.result
  rw [show V1 m ρ c main_arg1 = m ((c : Thread nD τ).loc main_arg1) from W1_args m ρ c main_arg1 (by decide),
    show V1 m ρ c main_arg2 = m ((c : Thread nD τ).loc main_arg2) from W1_args m ρ c main_arg2 (by decide),
    show V1 m ρ c main_arg5 = m ((c : Thread nD τ).loc main_arg5) from W1_args m ρ c main_arg5 (by decide)]

/-- The second call's weights, entry by entry. -/
theorem weights (c : Dev nD) (k n : Fin 4096) :
    (W3 m ρ c (Proc.devRef .tc main_v15) : FVec Ideal S4096x4096 .bf16) (ix2 k n)
      = weight (m ((c : Thread nD τ).loc main_arg1)) (m ((c : Thread nD τ).loc main_arg2))
          (m ((c : Thread nD τ).loc main_arg3)) (m ((c : Thread nD τ).loc main_arg4))
          (m ((c : Thread nD τ).loc main_arg5)) n k := by
  refine (Host.weights_apply (W2 m ρ c) k n (by omega)).trans ?_
  rw [first]
  unfold Codes.whole weight
  refine Codes.entry_congr (fun _ => rfl) ?_ (fun _ => rfl) ?_
  · refine congrArg _ ?_
    congr 1 <;> apply Fin.ext
    · show (n.val * 32 + k.val / 128) / 32 = n.val
      omega
    · show (n.val * 32 + k.val / 128) % 32 = k.val / 128
      omega
  · intro x
    exact Host.matrix_apply (W0 m ρ c) x ⟨k.val % 128, by omega⟩

/-- The returned array, entry by entry. -/
theorem result_apply (c : Dev nD) (b : Fin 4) (s n : Fin 4096) :
    (W5 m ρ c (Proc.devRef .tc main_v17) : FVec Ideal S4x4096x4096 .f32) (ix3 b s n)
      = value (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) b s n := by
  refine (Host.result_apply (W4 m ρ c) b s n (by omega)).trans ?_
  refine (congrFun ((W4_arr m ρ c 3).trans (Product.final (V3 m ρ) c)) _).trans ?_
  unfold Product.result Product.whole value
  have e10 : V3 m ρ c main_v10 = W1 m ρ c (Proc.devRef .tc main_v10) :=
    (W3_of m ρ c main_v10 (by decide)).trans (W2_of m ρ c main_v10 (by decide))
  have e11 : V3 m ρ c main_v11 = W1 m ρ c (Proc.devRef .tc main_v11) :=
    (W3_of m ρ c main_v11 (by decide)).trans (W2_of m ρ c main_v11 (by decide))
  rw [e10, e11]
  refine congrArg₂ (fun u v : EReal => u + v) (Finset.sum_congr rfl fun k _ => ?_) ?_
  · refine congrArg₂ (fun u v : EReal => u * v) ?_ (weights m ρ c k n)
    refine (Host.rows_apply (W0 m ρ c) _ k (by omega)).trans ?_
    refine congrArg (m ((c : Thread nD τ).loc main_arg0) : FVec Ideal S4x4096x4096 .f32) ?_
    congr 1 <;> apply Fin.ext
    · show (b.val * 4096 + s.val) / 4096 = b.val
      omega
    · show (b.val * 4096 + s.val) % 4096 = s.val
      omega
  · exact Host.bias_apply (W0 m ρ c) n

end Cert.KernelIdeal.Result

end
-- ==== Proof.Stages.lean ====
/- The reference's transform: one stage's sums and differences of a row's two halves, and the seven stages in a row. -/
module

public import proofs.«01_k».proof.Proof.Gen.ReferenceIdeal
public import Idealize.ShloMosaic.Lib.Pointwise

@[expose] public section

set_option maxRecDepth 16384

noncomputable section

namespace Cert.ReferenceIdeal.Stages

open Cert.ReferenceIdeal Cert.ReferenceIdeal.Gen
open Idealize.ShloMosaic Idealize.ShloMosaic.TcCoe Idealize.SL.Sem

/-- One stage: the sums of the two halves, then their differences. -/
def step (u : Fin 128 → EReal) : Fin 128 → EReal := fun k =>
  if k.val < 64 then u ⟨k.val % 64, by omega⟩ + u ⟨k.val % 64 + 64, by omega⟩
  else u ⟨k.val % 64, by omega⟩ - u ⟨k.val % 64 + 64, by omega⟩

/-- A row of halves as one row. -/
def flat (x : FVec Ideal S131072x2x64 .f32) (r : Fin 131072) : Fin 128 → EReal := fun k =>
  x (ix3 r ⟨k.val / 64, by omega⟩ ⟨k.val % 64, by omega⟩)

section
variable {F : FTy → Type} [FloatOps F]

/-- The first halves. -/
def low (x : FVec F S131072x2x64 .f32) : FVec F S131072x64 .f32 :=
  shapeCast S131072x64 (extractStridedSlice S131072x1x64 ![0, 0, 0] x slices_S131072x2x64_S131072x1x64_0_0_0) shapeCasts_S131072x1x64_S131072x64

/-- The second halves. -/
def high (x : FVec F S131072x2x64 .f32) : FVec F S131072x64 .f32 :=
  shapeCast S131072x64 (extractStridedSlice S131072x1x64 ![0, 1, 0] x slices_S131072x2x64_S131072x1x64_0_1_0) shapeCasts_S131072x1x64_S131072x64

/-- One array of half-rows beside another. -/
def join (a b : FVec F S131072x64 .f32) : FVec F S131072x128 .f32 :=
  concatenate S131072x128 1 [⟨S131072x64, a⟩, ⟨S131072x64, b⟩] concatenates_S131072x64_S131072x64_S131072x128_d1

/-- Sums beside differences. -/
def joined (x : FVec F S131072x2x64 .f32) : FVec F S131072x128 .f32 := join (addf (low x) (high x)) (subf (low x) (high x))

/-- Each row cut into its two halves. -/
def cut (x : FVec F S131072x128 .f32) : FVec F S131072x2x64 .f32 := shapeCast S131072x2x64 x shapeCasts_S131072x128_S131072x2x64

end

theorem low_apply (x : FVec Ideal S131072x2x64 .f32) (r : Fin 131072) (l : Fin 64) :
    low x (ix2 r l) = x (ix3 r 0 l) := by
  unfold low
  pointwise

theorem high_apply (x : FVec Ideal S131072x2x64 .f32) (r : Fin 131072) (l : Fin 64) :
    high x (ix2 r l) = x (ix3 r 1 l) := by
  unfold high
  pointwise

/-- The joined array at an index is a stage of the row. -/
theorem joined_apply (x : FVec Ideal S131072x2x64 .f32) (r : Fin 131072) (k : Fin 128) :
    joined x (ix2 r k) = step (flat x r) k := by
  unfold joined join step flat
  pointwise
  have a : ∀ (u v : Fin 2) (a b : Fin 64), u.val = v.val → a.val = b.val → x (ix3 r u a) = x (ix3 r v b) := by
    intro u v a b h h'
    rw [Fin.ext h, Fin.ext h']
  have h := k.isLt
  split
  · rw [low_apply, high_apply]
    exact congrArg₂ (fun p q : EReal => p + q)
      (a _ _ _ _ (by show 0 = k.val % 64 / 64; omega) (by show k.val = k.val % 64 % 64; omega))
      (a _ _ _ _ (by show 1 = (k.val % 64 + 64) / 64; omega) (by show k.val = (k.val % 64 + 64) % 64; omega))
  · rw [low_apply, high_apply]
    exact congrArg₂ (fun p q : EReal => p - q)
      (a _ _ _ _ (by show 0 = k.val % 64 / 64; omega) (by show k.val - 64 = k.val % 64 % 64; omega))
      (a _ _ _ _ (by show 1 = (k.val % 64 + 64) / 64; omega) (by show k.val - 64 = (k.val % 64 + 64) % 64; omega))

/-- The joined array cut into halves again is a stage of the rows. -/
theorem flat_joined (x : FVec Ideal S131072x2x64 .f32) (r : Fin 131072) :
    flat (cut (joined x)) r = step (flat x r) := by
  funext k
  rw [← joined_apply]
  unfold flat cut
  pointwise

end Cert.ReferenceIdeal.Stages

end
-- ==== Proof.Pieces.lean ====
/- The reference's host operations, in the order it performs them, cut where a stage of its transform begins and ends:
   the values up to the signed rows, seven stages of sums and differences, and the rest. Each piece is read from any
   contents, and the run is theirs one after another. -/
module

public import proofs.«01_k».proof.Proof.Stages
public import Idealize.ShloMosaic.Lib.StableHlo.Run

@[expose] public section

set_option maxRecDepth 16384

noncomputable section

namespace Cert.ReferenceIdeal.Pieces

open Cert.ReferenceIdeal Cert.ReferenceIdeal.Gen Cert.ReferenceIdeal.Stages
open Idealize.ShloMosaic Idealize.ShloMosaic.TcCoe Idealize.SL.Sem Idealize.ShloMosaic.StableHlo

variable {F : FTy → Type} [FloatOps F]

/-- The operations up to the signed rows. -/
abbrev head : List (HloOp τ sig (Elt F)) :=
  [ nullary main_cst (constant S_ .f32 0x43000000#32),
    unary main_cst main_v0 (Host.sqrt : (⟨S_, .f32⟩ : BufTy).Contents (Elt F) → (⟨S_, .f32⟩ : BufTy).Contents (Elt F)),
    nullary main_cst_0 (constant S_ .f32 0x3F800000#32),
    binary main_cst_0 main_v0 main_v1 (Host.divf : (⟨S_, .f32⟩ : BufTy).Contents (Elt F) → (⟨S_, .f32⟩ : BufTy).Contents (Elt F) → (⟨S_, .f32⟩ : BufTy).Contents (Elt F)),
    nullary main_c (constantI S_ 32 0#32),
    unary main_c main_v2 (broadcastInDim S131072x128 ![] bcast_S_S131072x128 : (⟨S_, .i32⟩ : BufTy).Contents (Elt F) → (⟨S131072x128, .i32⟩ : BufTy).Contents (Elt F)),
    binary main_arg1 main_v2 main_v3 (cmpi .slt : (⟨S131072x128, .i32⟩ : BufTy).Contents (Elt F) → (⟨S131072x128, .i32⟩ : BufTy).Contents (Elt F) → (⟨S131072x128, .i1⟩ : BufTy).Contents (Elt F)),
    nullary main_c_1 (constantI S_ 32 8#32),
    unary main_c_1 main_v4 (broadcastInDim S131072x128 ![] bcast_S_S131072x128 : (⟨S_, .i32⟩ : BufTy).Contents (Elt F) → (⟨S131072x128, .i32⟩ : BufTy).Contents (Elt F)),
    binary main_arg1 main_v4 main_v5 (addi : (⟨S131072x128, .i32⟩ : BufTy).Contents (Elt F) → (⟨S131072x128, .i32⟩ : BufTy).Contents (Elt F) → (⟨S131072x128, .i32⟩ : BufTy).Contents (Elt F)),
    ternary main_v3 main_v5 main_arg1 main_v6 (select : (⟨S131072x128, .i1⟩ : BufTy).Contents (Elt F) → (⟨S131072x128, .i32⟩ : BufTy).Contents (Elt F) → (⟨S131072x128, .i32⟩ : BufTy).Contents (Elt F) → (⟨S131072x128, .i32⟩ : BufTy).Contents (Elt F)),
    unary main_v6 main_v7 (broadcastInDim S131072x128x1 ![0, 1] bcast_S131072x128_S131072x128x1_0_1 : (⟨S131072x128, .i32⟩ : BufTy).Contents (Elt F) → (⟨S131072x128x1, .i32⟩ : BufTy).Contents (Elt F)),
    binary main_arg5 main_v7 main_v8 ((fun x i => Host.gather gather_S8_S131072x128x1_S131072x128_n_0_n_n_0_2_1 x i) : (⟨S8, .f32⟩ : BufTy).Contents (Elt F) → (⟨S131072x128x1, .i32⟩ : BufTy).Contents (Elt F) → (⟨S131072x128, .f32⟩ : BufTy).Contents (Elt F)),
    reshape main_arg2 main_v9 (rfl : (.f32 : EltTy) = .f32) shapeCasts_S4096x32_S131072x1,
    unary main_v9 main_v10 (broadcastInDim S131072x128 ![0, 1] bcast_S131072x1_S131072x128_0_1 : (⟨S131072x1, .f32⟩ : BufTy).Contents (Elt F) → (⟨S131072x128, .f32⟩ : BufTy).Contents (Elt F)),
    binary main_v8 main_v10 main_v11 (mulf : (⟨S131072x128, .f32⟩ : BufTy).Contents (Elt F) → (⟨S131072x128, .f32⟩ : BufTy).Contents (Elt F) → (⟨S131072x128, .f32⟩ : BufTy).Contents (Elt F)),
    unary main_arg4 main_v12 (broadcastInDim S1x128 ![1] bcast_S128_S1x128_1 : (⟨S128, .f32⟩ : BufTy).Contents (Elt F) → (⟨S1x128, .f32⟩ : BufTy).Contents (Elt F)),
    unary main_v12 main_v13 (broadcastInDim S131072x128 ![0, 1] bcast_S1x128_S131072x128_0_1 : (⟨S1x128, .f32⟩ : BufTy).Contents (Elt F) → (⟨S131072x128, .f32⟩ : BufTy).Contents (Elt F)),
    binary main_v11 main_v13 main_v14 (mulf : (⟨S131072x128, .f32⟩ : BufTy).Contents (Elt F) → (⟨S131072x128, .f32⟩ : BufTy).Contents (Elt F) → (⟨S131072x128, .f32⟩ : BufTy).Contents (Elt F)),
    reshape main_v14 main_v15 (rfl : (.f32 : EltTy) = .f32) shapeCasts_S131072x128_S131072x2x64 ]

/-- What `head` writes. -/
abbrev head_W : List (Ref sig .tc) := [main_cst, main_v0, main_cst_0, main_v1, main_c, main_v2, main_v3, main_c_1, main_v4, main_v5, main_v6, main_v7, main_v8, main_v9, main_v10, main_v11, main_v12, main_v13, main_v14, main_v15]
theorem head_writes : (head : List (HloOp τ sig (Elt F))).Forall fun op => op.writes ⊆ (head_W.map (Proc.devRef (τ := τ) .tc)).toFinset :=
  StableHlo.forall_writes_sub_of_map rfl

/-- Stage 1 of the transform. -/
abbrev stage1 : List (HloOp τ sig (Elt F)) :=
  [ unary main_v15 main_v16 ((extractStridedSlice S131072x1x64 ![0, 0, 0] · slices_S131072x2x64_S131072x1x64_0_0_0) : (⟨S131072x2x64, .f32⟩ : BufTy).Contents (Elt F) → (⟨S131072x1x64, .f32⟩ : BufTy).Contents (Elt F)),
    reshape main_v16 main_v17 (rfl : (.f32 : EltTy) = .f32) shapeCasts_S131072x1x64_S131072x64,
    unary main_v15 main_v18 ((extractStridedSlice S131072x1x64 ![0, 1, 0] · slices_S131072x2x64_S131072x1x64_0_1_0) : (⟨S131072x2x64, .f32⟩ : BufTy).Contents (Elt F) → (⟨S131072x1x64, .f32⟩ : BufTy).Contents (Elt F)),
    reshape main_v18 main_v19 (rfl : (.f32 : EltTy) = .f32) shapeCasts_S131072x1x64_S131072x64,
    binary main_v17 main_v19 main_v20 (addf : (⟨S131072x64, .f32⟩ : BufTy).Contents (Elt F) → (⟨S131072x64, .f32⟩ : BufTy).Contents (Elt F) → (⟨S131072x64, .f32⟩ : BufTy).Contents (Elt F)),
    binary main_v17 main_v19 main_v21 (subf : (⟨S131072x64, .f32⟩ : BufTy).Contents (Elt F) → (⟨S131072x64, .f32⟩ : BufTy).Contents (Elt F) → (⟨S131072x64, .f32⟩ : BufTy).Contents (Elt F)),
    binary main_v20 main_v21 main_v22 (join (F := F)),
    reshape main_v22 main_v23 (rfl : (.f32 : EltTy) = .f32) shapeCasts_S131072x128_S131072x2x64 ]

/-- What `stage1` writes. -/
abbrev stage1_W : List (Ref sig .tc) := [main_v16, main_v17, main_v18, main_v19, main_v20, main_v21, main_v22, main_v23]
theorem stage1_writes : (stage1 : List (HloOp τ sig (Elt F))).Forall fun op => op.writes ⊆ (stage1_W.map (Proc.devRef (τ := τ) .tc)).toFinset :=
  StableHlo.forall_writes_sub_of_map rfl

/-- Stage 2 of the transform. -/
abbrev stage2 : List (HloOp τ sig (Elt F)) :=
  [ unary main_v23 main_v24 ((extractStridedSlice S131072x1x64 ![0, 0, 0] · slices_S131072x2x64_S131072x1x64_0_0_0) : (⟨S131072x2x64, .f32⟩ : BufTy).Contents (Elt F) → (⟨S131072x1x64, .f32⟩ : BufTy).Contents (Elt F)),
    reshape main_v24 main_v25 (rfl : (.f32 : EltTy) = .f32) shapeCasts_S131072x1x64_S131072x64,
    unary main_v23 main_v26 ((extractStridedSlice S131072x1x64 ![0, 1, 0] · slices_S131072x2x64_S131072x1x64_0_1_0) : (⟨S131072x2x64, .f32⟩ : BufTy).Contents (Elt F) → (⟨S131072x1x64, .f32⟩ : BufTy).Contents (Elt F)),
    reshape main_v26 main_v27 (rfl : (.f32 : EltTy) = .f32) shapeCasts_S131072x1x64_S131072x64,
    binary main_v25 main_v27 main_v28 (addf : (⟨S131072x64, .f32⟩ : BufTy).Contents (Elt F) → (⟨S131072x64, .f32⟩ : BufTy).Contents (Elt F) → (⟨S131072x64, .f32⟩ : BufTy).Contents (Elt F)),
    binary main_v25 main_v27 main_v29 (subf : (⟨S131072x64, .f32⟩ : BufTy).Contents (Elt F) → (⟨S131072x64, .f32⟩ : BufTy).Contents (Elt F) → (⟨S131072x64, .f32⟩ : BufTy).Contents (Elt F)),
    binary main_v28 main_v29 main_v30 (join (F := F)),
    reshape main_v30 main_v31 (rfl : (.f32 : EltTy) = .f32) shapeCasts_S131072x128_S131072x2x64 ]

/-- What `stage2` writes. -/
abbrev stage2_W : List (Ref sig .tc) := [main_v24, main_v25, main_v26, main_v27, main_v28, main_v29, main_v30, main_v31]
theorem stage2_writes : (stage2 : List (HloOp τ sig (Elt F))).Forall fun op => op.writes ⊆ (stage2_W.map (Proc.devRef (τ := τ) .tc)).toFinset :=
  StableHlo.forall_writes_sub_of_map rfl

/-- Stage 3 of the transform. -/
abbrev stage3 : List (HloOp τ sig (Elt F)) :=
  [ unary main_v31 main_v32 ((extractStridedSlice S131072x1x64 ![0, 0, 0] · slices_S131072x2x64_S131072x1x64_0_0_0) : (⟨S131072x2x64, .f32⟩ : BufTy).Contents (Elt F) → (⟨S131072x1x64, .f32⟩ : BufTy).Contents (Elt F)),
    reshape main_v32 main_v33 (rfl : (.f32 : EltTy) = .f32) shapeCasts_S131072x1x64_S131072x64,
    unary main_v31 main_v34 ((extractStridedSlice S131072x1x64 ![0, 1, 0] · slices_S131072x2x64_S131072x1x64_0_1_0) : (⟨S131072x2x64, .f32⟩ : BufTy).Contents (Elt F) → (⟨S131072x1x64, .f32⟩ : BufTy).Contents (Elt F)),
    reshape main_v34 main_v35 (rfl : (.f32 : EltTy) = .f32) shapeCasts_S131072x1x64_S131072x64,
    binary main_v33 main_v35 main_v36 (addf : (⟨S131072x64, .f32⟩ : BufTy).Contents (Elt F) → (⟨S131072x64, .f32⟩ : BufTy).Contents (Elt F) → (⟨S131072x64, .f32⟩ : BufTy).Contents (Elt F)),
    binary main_v33 main_v35 main_v37 (subf : (⟨S131072x64, .f32⟩ : BufTy).Contents (Elt F) → (⟨S131072x64, .f32⟩ : BufTy).Contents (Elt F) → (⟨S131072x64, .f32⟩ : BufTy).Contents (Elt F)),
    binary main_v36 main_v37 main_v38 (join (F := F)),
    reshape main_v38 main_v39 (rfl : (.f32 : EltTy) = .f32) shapeCasts_S131072x128_S131072x2x64 ]

/-- What `stage3` writes. -/
abbrev stage3_W : List (Ref sig .tc) := [main_v32, main_v33, main_v34, main_v35, main_v36, main_v37, main_v38, main_v39]
theorem stage3_writes : (stage3 : List (HloOp τ sig (Elt F))).Forall fun op => op.writes ⊆ (stage3_W.map (Proc.devRef (τ := τ) .tc)).toFinset :=
  StableHlo.forall_writes_sub_of_map rfl

/-- Stage 4 of the transform. -/
abbrev stage4 : List (HloOp τ sig (Elt F)) :=
  [ unary main_v39 main_v40 ((extractStridedSlice S131072x1x64 ![0, 0, 0] · slices_S131072x2x64_S131072x1x64_0_0_0) : (⟨S131072x2x64, .f32⟩ : BufTy).Contents (Elt F) → (⟨S131072x1x64, .f32⟩ : BufTy).Contents (Elt F)),
    reshape main_v40 main_v41 (rfl : (.f32 : EltTy) = .f32) shapeCasts_S131072x1x64_S131072x64,
    unary main_v39 main_v42 ((extractStridedSlice S131072x1x64 ![0, 1, 0] · slices_S131072x2x64_S131072x1x64_0_1_0) : (⟨S131072x2x64, .f32⟩ : BufTy).Contents (Elt F) → (⟨S131072x1x64, .f32⟩ : BufTy).Contents (Elt F)),
    reshape main_v42 main_v43 (rfl : (.f32 : EltTy) = .f32) shapeCasts_S131072x1x64_S131072x64,
    binary main_v41 main_v43 main_v44 (addf : (⟨S131072x64, .f32⟩ : BufTy).Contents (Elt F) → (⟨S131072x64, .f32⟩ : BufTy).Contents (Elt F) → (⟨S131072x64, .f32⟩ : BufTy).Contents (Elt F)),
    binary main_v41 main_v43 main_v45 (subf : (⟨S131072x64, .f32⟩ : BufTy).Contents (Elt F) → (⟨S131072x64, .f32⟩ : BufTy).Contents (Elt F) → (⟨S131072x64, .f32⟩ : BufTy).Contents (Elt F)),
    binary main_v44 main_v45 main_v46 (join (F := F)),
    reshape main_v46 main_v47 (rfl : (.f32 : EltTy) = .f32) shapeCasts_S131072x128_S131072x2x64 ]

/-- What `stage4` writes. -/
abbrev stage4_W : List (Ref sig .tc) := [main_v40, main_v41, main_v42, main_v43, main_v44, main_v45, main_v46, main_v47]
theorem stage4_writes : (stage4 : List (HloOp τ sig (Elt F))).Forall fun op => op.writes ⊆ (stage4_W.map (Proc.devRef (τ := τ) .tc)).toFinset :=
  StableHlo.forall_writes_sub_of_map rfl

/-- Stage 5 of the transform. -/
abbrev stage5 : List (HloOp τ sig (Elt F)) :=
  [ unary main_v47 main_v48 ((extractStridedSlice S131072x1x64 ![0, 0, 0] · slices_S131072x2x64_S131072x1x64_0_0_0) : (⟨S131072x2x64, .f32⟩ : BufTy).Contents (Elt F) → (⟨S131072x1x64, .f32⟩ : BufTy).Contents (Elt F)),
    reshape main_v48 main_v49 (rfl : (.f32 : EltTy) = .f32) shapeCasts_S131072x1x64_S131072x64,
    unary main_v47 main_v50 ((extractStridedSlice S131072x1x64 ![0, 1, 0] · slices_S131072x2x64_S131072x1x64_0_1_0) : (⟨S131072x2x64, .f32⟩ : BufTy).Contents (Elt F) → (⟨S131072x1x64, .f32⟩ : BufTy).Contents (Elt F)),
    reshape main_v50 main_v51 (rfl : (.f32 : EltTy) = .f32) shapeCasts_S131072x1x64_S131072x64,
    binary main_v49 main_v51 main_v52 (addf : (⟨S131072x64, .f32⟩ : BufTy).Contents (Elt F) → (⟨S131072x64, .f32⟩ : BufTy).Contents (Elt F) → (⟨S131072x64, .f32⟩ : BufTy).Contents (Elt F)),
    binary main_v49 main_v51 main_v53 (subf : (⟨S131072x64, .f32⟩ : BufTy).Contents (Elt F) → (⟨S131072x64, .f32⟩ : BufTy).Contents (Elt F) → (⟨S131072x64, .f32⟩ : BufTy).Contents (Elt F)),
    binary main_v52 main_v53 main_v54 (join (F := F)),
    reshape main_v54 main_v55 (rfl : (.f32 : EltTy) = .f32) shapeCasts_S131072x128_S131072x2x64 ]

/-- What `stage5` writes. -/
abbrev stage5_W : List (Ref sig .tc) := [main_v48, main_v49, main_v50, main_v51, main_v52, main_v53, main_v54, main_v55]
theorem stage5_writes : (stage5 : List (HloOp τ sig (Elt F))).Forall fun op => op.writes ⊆ (stage5_W.map (Proc.devRef (τ := τ) .tc)).toFinset :=
  StableHlo.forall_writes_sub_of_map rfl

/-- Stage 6 of the transform. -/
abbrev stage6 : List (HloOp τ sig (Elt F)) :=
  [ unary main_v55 main_v56 ((extractStridedSlice S131072x1x64 ![0, 0, 0] · slices_S131072x2x64_S131072x1x64_0_0_0) : (⟨S131072x2x64, .f32⟩ : BufTy).Contents (Elt F) → (⟨S131072x1x64, .f32⟩ : BufTy).Contents (Elt F)),
    reshape main_v56 main_v57 (rfl : (.f32 : EltTy) = .f32) shapeCasts_S131072x1x64_S131072x64,
    unary main_v55 main_v58 ((extractStridedSlice S131072x1x64 ![0, 1, 0] · slices_S131072x2x64_S131072x1x64_0_1_0) : (⟨S131072x2x64, .f32⟩ : BufTy).Contents (Elt F) → (⟨S131072x1x64, .f32⟩ : BufTy).Contents (Elt F)),
    reshape main_v58 main_v59 (rfl : (.f32 : EltTy) = .f32) shapeCasts_S131072x1x64_S131072x64,
    binary main_v57 main_v59 main_v60 (addf : (⟨S131072x64, .f32⟩ : BufTy).Contents (Elt F) → (⟨S131072x64, .f32⟩ : BufTy).Contents (Elt F) → (⟨S131072x64, .f32⟩ : BufTy).Contents (Elt F)),
    binary main_v57 main_v59 main_v61 (subf : (⟨S131072x64, .f32⟩ : BufTy).Contents (Elt F) → (⟨S131072x64, .f32⟩ : BufTy).Contents (Elt F) → (⟨S131072x64, .f32⟩ : BufTy).Contents (Elt F)),
    binary main_v60 main_v61 main_v62 (join (F := F)),
    reshape main_v62 main_v63 (rfl : (.f32 : EltTy) = .f32) shapeCasts_S131072x128_S131072x2x64 ]

/-- What `stage6` writes. -/
abbrev stage6_W : List (Ref sig .tc) := [main_v56, main_v57, main_v58, main_v59, main_v60, main_v61, main_v62, main_v63]
theorem stage6_writes : (stage6 : List (HloOp τ sig (Elt F))).Forall fun op => op.writes ⊆ (stage6_W.map (Proc.devRef (τ := τ) .tc)).toFinset :=
  StableHlo.forall_writes_sub_of_map rfl

/-- Stage 7 of the transform. -/
abbrev stage7 : List (HloOp τ sig (Elt F)) :=
  [ unary main_v63 main_v64 ((extractStridedSlice S131072x1x64 ![0, 0, 0] · slices_S131072x2x64_S131072x1x64_0_0_0) : (⟨S131072x2x64, .f32⟩ : BufTy).Contents (Elt F) → (⟨S131072x1x64, .f32⟩ : BufTy).Contents (Elt F)),
    reshape main_v64 main_v65 (rfl : (.f32 : EltTy) = .f32) shapeCasts_S131072x1x64_S131072x64,
    unary main_v63 main_v66 ((extractStridedSlice S131072x1x64 ![0, 1, 0] · slices_S131072x2x64_S131072x1x64_0_1_0) : (⟨S131072x2x64, .f32⟩ : BufTy).Contents (Elt F) → (⟨S131072x1x64, .f32⟩ : BufTy).Contents (Elt F)),
    reshape main_v66 main_v67 (rfl : (.f32 : EltTy) = .f32) shapeCasts_S131072x1x64_S131072x64,
    binary main_v65 main_v67 main_v68 (addf : (⟨S131072x64, .f32⟩ : BufTy).Contents (Elt F) → (⟨S131072x64, .f32⟩ : BufTy).Contents (Elt F) → (⟨S131072x64, .f32⟩ : BufTy).Contents (Elt F)),
    binary main_v65 main_v67 main_v69 (subf : (⟨S131072x64, .f32⟩ : BufTy).Contents (Elt F) → (⟨S131072x64, .f32⟩ : BufTy).Contents (Elt F) → (⟨S131072x64, .f32⟩ : BufTy).Contents (Elt F)),
    binary main_v68 main_v69 main_v70 (join (F := F)) ]

/-- What `stage7` writes. -/
abbrev stage7_W : List (Ref sig .tc) := [main_v64, main_v65, main_v66, main_v67, main_v68, main_v69, main_v70]
theorem stage7_writes : (stage7 : List (HloOp τ sig (Elt F))).Forall fun op => op.writes ⊆ (stage7_W.map (Proc.devRef (τ := τ) .tc)).toFinset :=
  StableHlo.forall_writes_sub_of_map rfl

/-- The operations after the last stage. -/
abbrev tail : List (HloOp τ sig (Elt F)) :=
  [ unary main_v1 main_v71 (broadcastInDim S131072x128 ![] bcast_S_S131072x128 : (⟨S_, .f32⟩ : BufTy).Contents (Elt F) → (⟨S131072x128, .f32⟩ : BufTy).Contents (Elt F)),
    binary main_v70 main_v71 main_v72 (mulf : (⟨S131072x128, .f32⟩ : BufTy).Contents (Elt F) → (⟨S131072x128, .f32⟩ : BufTy).Contents (Elt F) → (⟨S131072x128, .f32⟩ : BufTy).Contents (Elt F)),
    unary main_arg3 main_v73 (broadcastInDim S1x128 ![1] bcast_S128_S1x128_1 : (⟨S128, .f32⟩ : BufTy).Contents (Elt F) → (⟨S1x128, .f32⟩ : BufTy).Contents (Elt F)),
    unary main_v73 main_v74 (broadcastInDim S131072x128 ![0, 1] bcast_S1x128_S131072x128_0_1 : (⟨S1x128, .f32⟩ : BufTy).Contents (Elt F) → (⟨S131072x128, .f32⟩ : BufTy).Contents (Elt F)),
    binary main_v72 main_v74 main_v75 (mulf : (⟨S131072x128, .f32⟩ : BufTy).Contents (Elt F) → (⟨S131072x128, .f32⟩ : BufTy).Contents (Elt F) → (⟨S131072x128, .f32⟩ : BufTy).Contents (Elt F)),
    reshape main_v75 main_v76 (rfl : (.f32 : EltTy) = .f32) shapeCasts_S131072x128_S4096x4096,
    binary main_arg0 main_v76 main_v77 ((fun l r => Host.dotGeneral dot_S4x4096x4096_S4096x4096_S4x4096x4096_2_1_01_0_n_n none l r) : (⟨S4x4096x4096, .f32⟩ : BufTy).Contents (Elt F) → (⟨S4096x4096, .f32⟩ : BufTy).Contents (Elt F) → (⟨S4x4096x4096, .f32⟩ : BufTy).Contents (Elt F)),
    unary main_arg6 main_v78 (broadcastInDim S1x1x4096 ![2] bcast_S4096_S1x1x4096_2 : (⟨S4096, .f32⟩ : BufTy).Contents (Elt F) → (⟨S1x1x4096, .f32⟩ : BufTy).Contents (Elt F)),
    unary main_v78 main_v79 (broadcastInDim S4x4096x4096 ![0, 1, 2] bcast_S1x1x4096_S4x4096x4096_0_1_2 : (⟨S1x1x4096, .f32⟩ : BufTy).Contents (Elt F) → (⟨S4x4096x4096, .f32⟩ : BufTy).Contents (Elt F)),
    binary main_v77 main_v79 main_v80 (addf : (⟨S4x4096x4096, .f32⟩ : BufTy).Contents (Elt F) → (⟨S4x4096x4096, .f32⟩ : BufTy).Contents (Elt F) → (⟨S4x4096x4096, .f32⟩ : BufTy).Contents (Elt F)) ]

/-- What `tail` writes. -/
abbrev tail_W : List (Ref sig .tc) := [main_v71, main_v72, main_v73, main_v74, main_v75, main_v76, main_v77, main_v78, main_v79, main_v80]
theorem tail_writes : (tail : List (HloOp τ sig (Elt F))).Forall fun op => op.writes ⊆ (tail_W.map (Proc.devRef (τ := τ) .tc)).toFinset :=
  StableHlo.forall_writes_sub_of_map rfl

/-- All of them. -/
abbrev ops : List (HloOp τ sig (Elt F)) := head ++ (stage1 ++ (stage2 ++ (stage3 ++ (stage4 ++ (stage5 ++ (stage6 ++ (stage7 ++ (tail))))))))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., binary_bufs_sub .., unary_bufs_sub .., unary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., unary_bufs_sub .., binary_bufs_sub .., unary_bufs_sub .., unary_bufs_sub .., binary_bufs_sub .., reshape_bufs_sub .., binary_bufs_sub .., unary_bufs_sub .., unary_bufs_sub .., binary_bufs_sub ..⟩

variable (V : Valuation τ sig (Elt F))

theorem stage1_read : after stage1 V (Proc.devRef .tc main_v23) = cut (joined (V (Proc.devRef .tc main_v15))) := by
  after_results_simp <;> rfl

theorem stage2_read : after stage2 V (Proc.devRef .tc main_v31) = cut (joined (V (Proc.devRef .tc main_v23))) := by
  after_results_simp <;> rfl

theorem stage3_read : after stage3 V (Proc.devRef .tc main_v39) = cut (joined (V (Proc.devRef .tc main_v31))) := by
  after_results_simp <;> rfl

theorem stage4_read : after stage4 V (Proc.devRef .tc main_v47) = cut (joined (V (Proc.devRef .tc main_v39))) := by
  after_results_simp <;> rfl

theorem stage5_read : after stage5 V (Proc.devRef .tc main_v55) = cut (joined (V (Proc.devRef .tc main_v47))) := by
  after_results_simp <;> rfl

theorem stage6_read : after stage6 V (Proc.devRef .tc main_v63) = cut (joined (V (Proc.devRef .tc main_v55))) := by
  after_results_simp <;> rfl

theorem stage7_read : after stage7 V (Proc.devRef .tc main_v70) = joined (V (Proc.devRef .tc main_v63)) := by
  after_results_simp <;> rfl

/-- Both lines one after the other. -/
theorem after_append (l₁ l₂ : List (HloOp τ sig (Elt F))) : after (l₁ ++ l₂) V = after l₂ (after l₁ V) := by
  induction l₁ generalizing V with
  | nil => rfl
  | cons op l ih => exact ih _

/-- The contents after the first pieces. -/
def at1 : Valuation τ sig (Elt F) := after head V
def at2 : Valuation τ sig (Elt F) := after stage1 (at1 V)
def at3 : Valuation τ sig (Elt F) := after stage2 (at2 V)
def at4 : Valuation τ sig (Elt F) := after stage3 (at3 V)
def at5 : Valuation τ sig (Elt F) := after stage4 (at4 V)
def at6 : Valuation τ sig (Elt F) := after stage5 (at5 V)
def at7 : Valuation τ sig (Elt F) := after stage6 (at6 V)
def at8 : Valuation τ sig (Elt F) := after stage7 (at7 V)

theorem after_ops : after ops V = after tail (at8 V) := by
  simp only [ops, after_append, at1, at2, at3, at4, at5, at6, at7, at8]

theorem at1_of (r : Ref sig .tc) (h : r ∉ head_W) : at1 V (Proc.devRef .tc r) = (V) (Proc.devRef .tc r) :=
  after_of_writes_sub head _ head_writes h
theorem at2_of (r : Ref sig .tc) (h : r ∉ stage1_W) : at2 V (Proc.devRef .tc r) = (at1 V) (Proc.devRef .tc r) :=
  after_of_writes_sub stage1 _ stage1_writes h
theorem at3_of (r : Ref sig .tc) (h : r ∉ stage2_W) : at3 V (Proc.devRef .tc r) = (at2 V) (Proc.devRef .tc r) :=
  after_of_writes_sub stage2 _ stage2_writes h
theorem at4_of (r : Ref sig .tc) (h : r ∉ stage3_W) : at4 V (Proc.devRef .tc r) = (at3 V) (Proc.devRef .tc r) :=
  after_of_writes_sub stage3 _ stage3_writes h
theorem at5_of (r : Ref sig .tc) (h : r ∉ stage4_W) : at5 V (Proc.devRef .tc r) = (at4 V) (Proc.devRef .tc r) :=
  after_of_writes_sub stage4 _ stage4_writes h
theorem at6_of (r : Ref sig .tc) (h : r ∉ stage5_W) : at6 V (Proc.devRef .tc r) = (at5 V) (Proc.devRef .tc r) :=
  after_of_writes_sub stage5 _ stage5_writes h
theorem at7_of (r : Ref sig .tc) (h : r ∉ stage6_W) : at7 V (Proc.devRef .tc r) = (at6 V) (Proc.devRef .tc r) :=
  after_of_writes_sub stage6 _ stage6_writes h
theorem at8_of (r : Ref sig .tc) (h : r ∉ stage7_W) : at8 V (Proc.devRef .tc r) = (at7 V) (Proc.devRef .tc r) :=
  after_of_writes_sub stage7 _ stage7_writes h

/-- A buffer the stages do not write is, after them, as before them. -/
theorem stages_of (r : Ref sig .tc) (h1 : r ∉ stage1_W) (h2 : r ∉ stage2_W) (h3 : r ∉ stage3_W) (h4 : r ∉ stage4_W) (h5 : r ∉ stage5_W)
    (h6 : r ∉ stage6_W) (h7 : r ∉ stage7_W) : at8 V (Proc.devRef .tc r) = at1 V (Proc.devRef .tc r) := by
  rw [at8_of V r h7, at7_of V r h6, at6_of V r h5, at5_of V r h4, at4_of V r h3, at3_of V r h2, at2_of V r h1]

/-- The joined rows after the seven stages. -/
theorem stages_read : at8 V (Proc.devRef .tc main_v70)
    = joined (cut (joined (cut (joined (cut (joined (cut (joined (cut (joined (cut (joined (at1 V (Proc.devRef .tc main_v15)))))))))))))) := by
  have c1 : at2 V (Proc.devRef .tc main_v23) = cut (joined (at1 V (Proc.devRef .tc main_v15))) := stage1_read (at1 V)
  have c2 : at3 V (Proc.devRef .tc main_v31) = cut (joined (at2 V (Proc.devRef .tc main_v23))) := stage2_read (at2 V)
  have c3 : at4 V (Proc.devRef .tc main_v39) = cut (joined (at3 V (Proc.devRef .tc main_v31))) := stage3_read (at3 V)
  have c4 : at5 V (Proc.devRef .tc main_v47) = cut (joined (at4 V (Proc.devRef .tc main_v39))) := stage4_read (at4 V)
  have c5 : at6 V (Proc.devRef .tc main_v55) = cut (joined (at5 V (Proc.devRef .tc main_v47))) := stage5_read (at5 V)
  have c6 : at7 V (Proc.devRef .tc main_v63) = cut (joined (at6 V (Proc.devRef .tc main_v55))) := stage6_read (at6 V)
  have c7 : at8 V (Proc.devRef .tc main_v70) = joined (at7 V (Proc.devRef .tc main_v63)) := stage7_read (at7 V)
  rw [c7, c6, c5, c4, c3, c2, c1]

/-- The result, of the joined rows, the scale and the arguments. -/
theorem tail_read : after tail V (Proc.devRef .tc main_v80)
    = addf (Host.dotGeneral dot_S4x4096x4096_S4096x4096_S4x4096x4096_2_1_01_0_n_n none (V (Proc.devRef .tc main_arg0)) (shapeCast _ (mulf (mulf (V (Proc.devRef .tc main_v70)) (broadcastInDim S131072x128 ![] bcast_S_S131072x128 (V (Proc.devRef .tc main_v1)))) (broadcastInDim S131072x128 ![0, 1] bcast_S1x128_S131072x128_0_1 (broadcastInDim S1x128 ![1] bcast_S128_S1x128_1 (V (Proc.devRef .tc main_arg3))))) shapeCasts_S131072x128_S4096x4096)) (broadcastInDim S4x4096x4096 ![0, 1, 2] bcast_S1x1x4096_S4x4096x4096_0_1_2 (broadcastInDim S1x1x4096 ![2] bcast_S4096_S1x1x4096_2 (V (Proc.devRef .tc main_arg6)))) := by
  after_results_simp <;> rfl

/-- The scale. -/
theorem head_scale : after head V (Proc.devRef .tc main_v1) = Host.divf (constant S_ .f32 0x3F800000#32) (Host.sqrt (constant S_ .f32 0x43000000#32)) := by
  after_results_simp <;> rfl

/-- The signed rows. -/
def start (V0 : Valuation τ sig (Elt F)) : (Proc.devRef .tc main_v15 : DevRef τ sig).ty.Contents (Elt F) :=
  shapeCast _ (mulf (mulf (Host.gather gather_S8_S131072x128x1_S131072x128_n_0_n_n_0_2_1 (V0 (Proc.devRef .tc main_arg5)) (broadcastInDim S131072x128x1 ![0, 1] bcast_S131072x128_S131072x128x1_0_1 (select (cmpi .slt (V0 (Proc.devRef .tc main_arg1)) (broadcastInDim S131072x128 ![] bcast_S_S131072x128 (constantI S_ 32 0#32))) (addi (V0 (Proc.devRef .tc main_arg1)) (broadcastInDim S131072x128 ![] bcast_S_S131072x128 (constantI S_ 32 8#32))) (V0 (Proc.devRef .tc main_arg1))))) (broadcastInDim S131072x128 ![0, 1] bcast_S131072x1_S131072x128_0_1 (shapeCast _ (V0 (Proc.devRef .tc main_arg2)) shapeCasts_S4096x32_S131072x1))) (broadcastInDim S131072x128 ![0, 1] bcast_S1x128_S131072x128_0_1 (broadcastInDim S1x128 ![1] bcast_S128_S1x128_1 (V0 (Proc.devRef .tc main_arg4))))) shapeCasts_S131072x128_S131072x2x64

theorem head_rows : after head V (Proc.devRef .tc main_v15) = start V := by
  after_results_simp <;> rfl

end Cert.ReferenceIdeal.Pieces

end
-- ==== Proof.Gather.lean ====
/- The reference's table lookup at an index, and the signed rows its transform starts from. -/
module

public import proofs.«01_k».proof.Proof.Pieces
public import Idealize.ShloMosaic.Lib.Pointwise
public import Idealize.ShloMosaic.Lib.Tactic.WordOmega

@[expose] public section

set_option maxRecDepth 16384

noncomputable section

namespace Cert.ReferenceIdeal.Lookup

open Cert.ReferenceIdeal Cert.ReferenceIdeal.Gen
open Idealize.ShloMosaic Idealize.ShloMosaic.TcCoe Idealize.SL.Sem

/-- The lookup reads the table of eight at the index word kept for that place, held within the table. -/
theorem gather_apply (x : FVec Ideal S8 .f32) (idx : IVec S131072x128x1 32) (r : Fin 131072) (j : Fin 128) :
    Host.gather gather_S8_S131072x128x1_S131072x128_n_0_n_n_0_2_1 x idx (ix2 r j)
      = x (ix1 ⟨min (idx (ix3 r j 0)).toInt.toNat 7, by omega⟩) := by
  unfold Host.gather
  refine congrArg x ?_
  funext a
  have ha : a = 0 := Subsingleton.elim _ _
  subst ha
  apply Fin.ext
  set d := gather_S8_S131072x128x1_S131072x128_n_0_n_n_0_2_1 with hd
  have hb : (0 : Fin 1) ∉ d.operandBatchingDims := List.not_mem_nil
  have hk : (0 : Fin 1) ∉ d.sKept := by rw [GatherDims.mem_sKept]; simp [hd, gather_S8_S131072x128x1_S131072x128_n_0_n_n_0_2_1]
  have hm : (0 : Fin 1) ∈ d.startIndexMap := List.mem_singleton.mpr rfl
  simp only [GatherDims.operandIdx, GatherDims.batchCoord_eq_zero _ _ _ hb, GatherDims.offCoord_eq_zero _ _ _ hk,
    Nat.add_zero, GatherDims.start, dif_pos hm]
  show min (idx _).toInt.toNat 7 = min (idx (ix3 r j 0)).toInt.toNat 7
  congr 3
  congr 1
  funext b
  match b with
  | ⟨0, _⟩ => rfl
  | ⟨1, _⟩ => rfl
  | ⟨2, _⟩ => rfl

/-- Where the index word is a number below eight, the lookup reads that entry. -/
theorem lookup_apply (x : FVec Ideal S8 .f32) (p : IVec S131072x128 32) (r : Fin 131072) (j : Fin 128) (k : Fin 8)
    (h : p (ix2 r j) = BitVec.ofNat 32 k.val) :
    Host.gather gather_S8_S131072x128x1_S131072x128_n_0_n_n_0_2_1 x
      (broadcastInDim S131072x128x1 ![0, 1] bcast_S131072x128_S131072x128x1_0_1
        (select (cmpi .slt p (broadcastInDim S131072x128 ![] bcast_S_S131072x128 (constantI S_ 32 0#32)))
          (addi p (broadcastInDim S131072x128 ![] bcast_S_S131072x128 (constantI S_ 32 8#32))) p)) (ix2 r j)
      = x (ix1 k) := by
  rw [gather_apply]
  refine congrArg (fun q : Fin 8 => x (ix1 q)) (Fin.ext ?_)
  pointwise
  rw [h]
  clear h
  revert k
  decide

/-- The signed rows, of the four arguments they are made of. -/
def rows (p : IVec S131072x128 32) (nm : FVec Ideal S4096x32 .f32) (s2 : FVec Ideal S128 .f32) (C : FVec Ideal S8 .f32) :
    FVec Ideal S131072x128 .f32 :=
  mulf (mulf (Host.gather gather_S8_S131072x128x1_S131072x128_n_0_n_n_0_2_1 C
      (broadcastInDim S131072x128x1 ![0, 1] bcast_S131072x128_S131072x128x1_0_1
        (select (cmpi .slt p (broadcastInDim S131072x128 ![] bcast_S_S131072x128 (constantI S_ 32 0#32)))
          (addi p (broadcastInDim S131072x128 ![] bcast_S_S131072x128 (constantI S_ 32 8#32))) p)))
      (broadcastInDim S131072x128 ![0, 1] bcast_S131072x1_S131072x128_0_1 (shapeCast S131072x1 nm shapeCasts_S4096x32_S131072x1)))
    (broadcastInDim S131072x128 ![0, 1] bcast_S1x128_S131072x128_0_1 (broadcastInDim S1x128 ![1] bcast_S128_S1x128_1 s2))

/-- A signed row's entry: the looked-up value, times its row's norm, times the second sign. -/
theorem rows_apply (p : IVec S131072x128 32) (nm : FVec Ideal S4096x32 .f32) (s2 : FVec Ideal S128 .f32) (C : FVec Ideal S8 .f32)
    (r : Fin 131072) (j : Fin 128) (k : Fin 8) (h : p (ix2 r j) = BitVec.ofNat 32 k.val) (h0 : r.val / 32 < 4096) :
    rows p nm s2 C (ix2 r j) = C (ix1 k) * nm (ix2 ⟨r.val / 32, h0⟩ ⟨r.val % 32, by omega⟩) * s2 (ix1 j) := by
  have e := lookup_apply C p r j k h
  unfold rows
  generalize Host.gather gather_S8_S131072x128x1_S131072x128_n_0_n_n_0_2_1 C _ = g at e ⊢
  rw [← e]
  pointwise

/-- Cut into halves, a row is the same row. -/
theorem flat_cut (x : FVec Ideal S131072x128 .f32) (r : Fin 131072) (k : Fin 128) :
    Stages.flat (Stages.cut x) r k = x (ix2 r k) := by
  unfold Stages.flat Stages.cut
  pointwise

end Cert.ReferenceIdeal.Lookup

end
-- ==== Proof.ReferenceResult.lean ====
/- The reference's run, and its result read at an index of the arguments. -/
module

public import proofs.«01_k».proof.Proof.Gather
public import proofs.«01_k».proof.Proof.Consts

@[expose] public section

set_option maxRecDepth 16384

noncomputable section

namespace Cert.ReferenceIdeal.Result

open Cert.ReferenceIdeal Cert.ReferenceIdeal.Gen Cert.ReferenceIdeal.Pieces Cert.ReferenceIdeal.Stages
open Idealize.ShloMosaic Idealize.ShloMosaic.TcCoe Idealize.SL.Sem Idealize.ShloMosaic.StableHlo

/-- Every run ends with each buffer as the operations leave it, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80) = after tail (at8 (launchContents m c)) (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have keep : ∀ (V : Valuation τ sig (Elt Ideal)) (a : Ref sig .tc), a ∉ head_W → a ∉ stage1_W → a ∉ stage2_W → a ∉ stage3_W →
      a ∉ stage4_W → a ∉ stage5_W → a ∉ stage6_W → a ∉ stage7_W → a ∉ tail_W →
      after ops V (Proc.devRef .tc a) = V (Proc.devRef .tc a) := by
    intro V a h0 h1 h2 h3 h4 h5 h6 h7 h8
    rw [after_ops, after_of_writes_sub tail _ tail_writes h8, stages_of V a h1 h2 h3 h4 h5 h6 h7, at1_of V a h0]
  refine (θ_run defs _ _).mono (fun _ h c => ⟨(h c main_v80).trans (congrFun (after_ops _) _),
      (h c main_arg0).trans ?_, (h c main_arg1).trans ?_, (h c main_arg2).trans ?_, (h c main_arg3).trans ?_,
      (h c main_arg4).trans ?_, (h c main_arg5).trans ?_, (h c main_arg6).trans ?_⟩)
    (run_seq scopedRefs_eq scopedSems_eq defs main (fun _ => ops) main_eq (fun _ => ops_sub) m ρ)
  all_goals exact keep _ _ (by decide) (by decide) (by decide) (by decide) (by decide) (by decide) (by decide) (by decide) (by decide)

/-- The reference's scale: one over the root of 128. -/
def scale : EReal := Ideal.div ((1 : ℝ) : EReal) (Ideal.sqrt ((128 : ℝ) : EReal))

/-- The seven stages of a row. -/
def stages (u : Fin 128 → EReal) : Fin 128 → EReal := step (step (step (step (step (step (step u))))))

/-- The reference's weight for output `n` and input `k`: the transform of the signed row of the group `k` falls in,
    scaled, times the first sign. -/
def weight (y : FVec Ideal S131072x128 .f32) (s1 : FVec Ideal S128 .f32) (n k : Fin 4096) : EReal :=
  stages (fun j => y (ix2 ⟨n.val * 32 + k.val / 128, by omega⟩ j)) ⟨k.val % 128, by omega⟩ * scale
    * s1 (ix1 ⟨k.val % 128, by omega⟩)

/-- The reference's result at batch `b`, position `s` and output `n`. -/
def value (x : FVec Ideal S4x4096x4096 .f32) (p : IVec S131072x128 32) (nm : FVec Ideal S4096x32 .f32)
    (s1 s2 : FVec Ideal S128 .f32) (C : FVec Ideal S8 .f32) (bias : FVec Ideal S4096 .f32)
    (b : Fin 4) (s n : Fin 4096) : EReal :=
  (∑ k : Fin 4096, x (ix3 b s k) * weight (Lookup.rows p nm s2 C) s1 n k : EReal) + bias (ix1 n)

/-- The last operations at an index, of any joined rows and any scale. -/
theorem tail_apply (x : FVec Ideal S4x4096x4096 .f32) (t : FVec Ideal S131072x128 .f32) (sc : FVec Ideal S_ .f32)
    (s1 : FVec Ideal S128 .f32) (bias : FVec Ideal S4096 .f32) (b : Fin 4) (s n : Fin 4096) :
    addf (Host.dotGeneral dot_S4x4096x4096_S4096x4096_S4x4096x4096_2_1_01_0_n_n none x
        (shapeCast S4096x4096 (mulf (mulf t (broadcastInDim S131072x128 ![] bcast_S_S131072x128 sc))
          (broadcastInDim S131072x128 ![0, 1] bcast_S1x128_S131072x128_0_1 (broadcastInDim S1x128 ![1] bcast_S128_S1x128_1 s1)))
          shapeCasts_S131072x128_S4096x4096))
        (broadcastInDim S4x4096x4096 ![0, 1, 2] bcast_S1x1x4096_S4x4096x4096_0_1_2
          (broadcastInDim S1x1x4096 ![2] bcast_S4096_S1x1x4096_2 bias)) (ix3 b s n)
      = (∑ k : Fin 4096, x (ix3 b s k)
          * (t (ix2 ⟨n.val * 32 + k.val / 128, by omega⟩ ⟨k.val % 128, by omega⟩) * sc ix0 * s1 (ix1 ⟨k.val % 128, by omega⟩)) : EReal)
        + bias (ix1 n) := by
  pointwise

/-- The result array at an index. -/
theorem result_apply (m : (ℓ : Loc nD τ sig) → Buf (Elt Ideal) ℓ) (c : Dev nD) (b : Fin 4) (s n : Fin 4096) :
    (after tail (at8 (launchContents m c)) (Proc.devRef .tc main_v80) : FVec Ideal S4x4096x4096 .f32) (ix3 b s n)
      = value (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) b s n := by
  have e : ∀ a : Ref sig .tc, a ∉ head_W → a ∉ stage1_W → a ∉ stage2_W → a ∉ stage3_W →
      a ∉ stage4_W → a ∉ stage5_W → a ∉ stage6_W → a ∉ stage7_W →
      at8 (launchContents m c) (Proc.devRef .tc a) = launchContents m c (Proc.devRef .tc a) := by
    intro a h0 h1 h2 h3 h4 h5 h6 h7
    rw [stages_of _ a h1 h2 h3 h4 h5 h6 h7, at1_of _ a h0]
  have e0 := e main_arg0 (by decide) (by decide) (by decide) (by decide) (by decide) (by decide) (by decide) (by decide)
  have e3 := e main_arg3 (by decide) (by decide) (by decide) (by decide) (by decide) (by decide) (by decide) (by decide)
  have e6 := e main_arg6 (by decide) (by decide) (by decide) (by decide) (by decide) (by decide) (by decide) (by decide)
  have e1 : at8 (launchContents m c) (Proc.devRef .tc main_v1) = _ :=
    (stages_of _ main_v1 (by decide) (by decide) (by decide) (by decide) (by decide) (by decide) (by decide)).trans
      (head_scale (launchContents m c))
  have e15 : at1 (launchContents m c) (Proc.devRef .tc main_v15) = cut (Lookup.rows (m ((c : Thread nD τ).loc main_arg1))
      (m ((c : Thread nD τ).loc main_arg2)) (m ((c : Thread nD τ).loc main_arg4)) (m ((c : Thread nD τ).loc main_arg5))) :=
    head_rows (launchContents m c)
  have e70 := stages_read (launchContents m c)
  rw [e15] at e70
  rw [tail_read, e0, e1, e3, e6, e70]
  refine (tail_apply _ _ _ _ _ b s n).trans ?_
  unfold value
  refine congrArg₂ (fun u v : EReal => u + v) (Finset.sum_congr rfl fun k _ => ?_) rfl
  refine congrArg₂ (fun u v : EReal => u * v) rfl ?_
  unfold weight
  refine congrArg₂ (fun u v : EReal => u * v) (congrArg₂ (fun u v : EReal => u * v) ?_ ?_) rfl
  · rw [joined_apply]
    unfold stages
    simp only [flat_joined]
    refine congrArg (fun f => step (step (step (step (step (step (step f)))))) _) ?_
    funext j
    exact Lookup.flat_cut _ _ j
  · unfold scale
    rw [← Consts.word_1, ← Consts.word_128]
    pointwise

end Cert.ReferenceIdeal.Result

end
-- ==== Proof.Equation.lean ====
/- The two weights are one number: seven stages of sums and differences are eight times one stage, which is what the
   kernel's matrix holds. -/
module

public import proofs.«01_k».proof.Proof.KernelResult
public import proofs.«01_k».proof.Proof.ReferenceResult

@[expose] public section

set_option maxRecDepth 16384

noncomputable section

namespace Cert.Equation

open Idealize.ShloMosaic Idealize.ShloMosaic.TcCoe
open Cert.ReferenceIdeal.Stages (step)
open Cert.ReferenceIdeal.Result (stages)
open Cert.KernelIdeal.Codes (code entry)
open Cert.KernelIdeal.Table (coeff)

/-- One stage, on real rows. -/
def stepR (u : Fin 128 → ℝ) : Fin 128 → ℝ := fun k =>
  if k.val < 64 then u ⟨k.val % 64, by omega⟩ + u ⟨k.val % 64 + 64, by omega⟩
  else u ⟨k.val % 64, by omega⟩ - u ⟨k.val % 64 + 64, by omega⟩

theorem step_coe (u : Fin 128 → ℝ) : step (fun j => ((u j : ℝ) : EReal)) = fun j => ((stepR u j : ℝ) : EReal) := by
  funext k
  unfold step stepR
  split
  · rw [EReal.coe_add]
  · rw [EReal.coe_sub]

/-- Two stages double a row. -/
theorem stepR_twice (u : Fin 128 → ℝ) : stepR (stepR u) = fun j => 2 * u j := by
  funext k
  have hk := k.isLt
  have a : (k.val % 64 + 64) % 64 = k.val % 64 := by omega
  have b : k.val % 64 % 64 = k.val % 64 := by omega
  have c : k.val % 64 < 64 := by omega
  have d : ¬ k.val % 64 + 64 < 64 := by omega
  simp only [stepR, a, b, c, d, if_true, if_false]
  split
  · have e : u k = u ⟨k.val % 64, by omega⟩ := congrArg u (Fin.ext (by show k.val = k.val % 64; omega))
    rw [e]; ring
  · have e : u k = u ⟨k.val % 64 + 64, by omega⟩ := congrArg u (Fin.ext (by show k.val = k.val % 64 + 64; omega))
    rw [e]; ring

theorem stepR_smul (a : ℝ) (u : Fin 128 → ℝ) : stepR (fun j => a * u j) = fun j => a * stepR u j := by
  funext k
  unfold stepR
  split <;> ring

/-- Seven stages are eight times one. -/
theorem stages_coe (u : Fin 128 → ℝ) : stages (fun j => ((u j : ℝ) : EReal)) = fun j => ((8 * stepR u j : ℝ) : EReal) := by
  unfold stages
  simp only [step_coe]
  simp only [stepR_twice, stepR_smul]
  funext k
  congr 1
  ring

/-- A column of the coefficients has two entries. -/
theorem coeff_eq (j k : Fin 128) : coeff j.val k.val
    = (if j = ⟨k.val % 64, by omega⟩ then 8 else 0)
      + (if j = ⟨k.val % 64 + 64, by omega⟩ then (if k.val < 64 then 8 else -8) else 0) := by
  have hj := j.isLt
  have hk := k.isLt
  simp only [coeff, Fin.ext_iff]
  split_ifs <;> first | omega | norm_num

/-- A row against a column of the coefficients is eight times a stage of it. -/
theorem sum_coeff (u : Fin 128 → ℝ) (k : Fin 128) : ∑ j : Fin 128, u j * coeff j.val k.val = 8 * stepR u k := by
  simp only [coeff_eq, mul_add, Finset.sum_add_distrib, mul_ite, mul_zero, Finset.sum_ite_eq', Finset.mem_univ, if_true]
  unfold stepR
  split <;> ring

/-- The code picked by a word below eight is the entry of that number. -/
theorem code_eq (C : Fin 8 → EReal) (k : Fin 8) :
    code (BitVec.ofNat 32 k.val) (C 0) (C 1) (C 2) (C 3) (C 4) (C 5) (C 6) (C 7) = C k := by
  unfold code
  fin_cases k <;> rfl

/-- The reciprocal root of 128. -/
def root : ℝ := 1 / Real.sqrt 128

theorem div_root (x : ℝ) : Ideal.div (x : EReal) (Ideal.sqrt ((128 : ℝ) : EReal)) = ((x * root : ℝ) : EReal) := by
  rw [Ideal.sqrt_coe, if_neg (by norm_num), Ideal.div_coe (Real.sqrt_pos.mpr (by norm_num)).ne', ← EReal.coe_mul]
  rfl

theorem coe_sum (f : Fin 128 → ℝ) : ((∑ j : Fin 128, f j : ℝ) : EReal) = ∑ j : Fin 128, ((f j : ℝ) : EReal) :=
  map_sum (⟨⟨fun r : ℝ => (r : EReal), EReal.coe_zero⟩, EReal.coe_add⟩ : ℝ →+ EReal) f Finset.univ

/-- The kernel's column sum is the reference's scaled and signed transform, on real rows. -/
theorem sum_eq (c s1 s2 : Fin 128 → ℝ) (n : ℝ) (k : Fin 128) :
    (∑ j : Fin 128, ((c j : ℝ) : EReal) * ((n : ℝ) : EReal)
        * (((s2 j : ℝ) : EReal) * Ideal.div ((coeff j.val k.val : ℝ) : EReal) (Ideal.sqrt ((128 : ℝ) : EReal)) * ((s1 k : ℝ) : EReal)))
      = stages (fun j => ((c j : ℝ) : EReal) * ((n : ℝ) : EReal) * ((s2 j : ℝ) : EReal)) k * Cert.ReferenceIdeal.Result.scale
          * ((s1 k : ℝ) : EReal) := by
  have hs : Cert.ReferenceIdeal.Result.scale = ((root : ℝ) : EReal) := by
    unfold Cert.ReferenceIdeal.Result.scale
    rw [div_root, one_mul]
  rw [hs]
  simp only [div_root, ← EReal.coe_mul]
  rw [stages_coe]
  beta_reduce
  rw [← sum_coeff]
  simp only [← EReal.coe_mul]
  rw [← coe_sum, EReal.coe_eq_coe_iff, Finset.sum_mul, Finset.sum_mul]
  refine Finset.sum_congr rfl fun j _ => ?_
  ring

/-- With index words below eight, and finite norms, signs and codes, the two weights are equal. -/
theorem weight_eq (p : IVec Cert.KernelIdeal.S131072x128 32) (nm : FVec Ideal Cert.KernelIdeal.S4096x32 .f32)
    (s1 s2 : FVec Ideal Cert.KernelIdeal.S128 .f32) (C : FVec Ideal Cert.KernelIdeal.S8 .f32)
    (hp : ∀ i, ∃ k : Fin 8, p i = BitVec.ofNat 32 k.val) (hn : ∀ i, ∃ r : ℝ, nm i = ((r : ℝ) : EReal))
    (h1 : ∀ i, ∃ r : ℝ, s1 i = ((r : ℝ) : EReal)) (h2 : ∀ i, ∃ r : ℝ, s2 i = ((r : ℝ) : EReal))
    (hC : ∀ i, ∃ r : ℝ, C i = ((r : ℝ) : EReal)) (n k : Fin 4096) :
    Cert.KernelIdeal.Result.weight p nm s1 s2 C n k
      = Cert.ReferenceIdeal.Result.weight (Cert.ReferenceIdeal.Lookup.rows p nm s2 C) s1 n k := by
  choose P hP using hp
  choose N hN using hn
  choose A hA using h1
  choose B hB using h2
  choose D hD using hC
  have hr : n.val * 32 + k.val / 128 < 131072 := by omega
  have hq : (n.val * 32 + k.val / 128) / 32 = n.val := by omega
  have hm : (n.val * 32 + k.val / 128) % 32 = k.val / 128 := by omega
  have key := sum_eq (fun j => D (ix1 (P (ix2 ⟨n.val * 32 + k.val / 128, hr⟩ j)))) (fun j => A (ix1 j)) (fun j => B (ix1 j))
    (N (ix2 n ⟨k.val / 128, by omega⟩)) ⟨k.val % 128, by omega⟩
  refine Eq.trans ?_ (key.trans ?_)
  · unfold Cert.KernelIdeal.Result.weight entry Cert.KernelIdeal.Host.entry
    refine Finset.sum_congr rfl fun j _ => ?_
    refine congrArg₂ (fun u v : EReal => u * v) (congrArg₂ (fun u v : EReal => u * v) ?_ (hN _)) ?_
    · beta_reduce
      rw [hP]
      exact (code_eq (fun q => C (ix1 q)) _).trans (hD _)
    · beta_reduce
      rw [hA, hB]
  · unfold Cert.ReferenceIdeal.Result.weight
    refine congrArg₂ (fun u v : EReal => u * v) (congrArg₂ (fun u v : EReal => u * v) ?_ rfl) (hA _).symm
    refine congrArg (fun f => stages f _) ?_
    funext j
    refine Eq.symm ((Cert.ReferenceIdeal.Lookup.rows_apply p nm s2 C ⟨n.val * 32 + k.val / 128, hr⟩ j _ (hP _) (by omega)).trans ?_)
    have e : (ix2 ⟨(n.val * 32 + k.val / 128) / 32, by omega⟩ ⟨(n.val * 32 + k.val / 128) % 32, by omega⟩ : Cert.KernelIdeal.S4096x32.Idx)
        = ix2 n ⟨k.val / 128, by omega⟩ := by
      congr 1 <;> apply Fin.ext
      · exact hq
      · exact hm
    refine congrArg₂ (fun u v : EReal => u * v) (congrArg₂ (fun u v : EReal => u * v) (hD _) ?_) (hB _)
    exact (congrArg nm e).trans (hN _)

/-- So the two results are equal at every index. -/
theorem value_eq (x : FVec Ideal Cert.KernelIdeal.S4x4096x4096 .f32) (p : IVec Cert.KernelIdeal.S131072x128 32)
    (nm : FVec Ideal Cert.KernelIdeal.S4096x32 .f32) (s1 s2 : FVec Ideal Cert.KernelIdeal.S128 .f32)
    (C : FVec Ideal Cert.KernelIdeal.S8 .f32) (bias : FVec Ideal Cert.KernelIdeal.S4096 .f32)
    (hp : ∀ i, ∃ k : Fin 8, p i = BitVec.ofNat 32 k.val) (hn : ∀ i, ∃ r : ℝ, nm i = ((r : ℝ) : EReal))
    (h1 : ∀ i, ∃ r : ℝ, s1 i = ((r : ℝ) : EReal)) (h2 : ∀ i, ∃ r : ℝ, s2 i = ((r : ℝ) : EReal))
    (hC : ∀ i, ∃ r : ℝ, C i = ((r : ℝ) : EReal)) (b : Fin 4) (s n : Fin 4096) :
    Cert.KernelIdeal.Result.value x p nm s1 s2 C bias b s n = Cert.ReferenceIdeal.Result.value x p nm s1 s2 C bias b s n := by
  unfold Cert.KernelIdeal.Result.value Cert.ReferenceIdeal.Result.value
  refine congrArg₂ (fun u v : EReal => u + v) (Finset.sum_congr rfl fun k _ => ?_) rfl
  exact congrArg₂ (fun u v : EReal => u * v) rfl (weight_eq p nm s1 s2 C hp hn h1 h2 hC n k)

end Cert.Equation

end
-- ==== Proof.Precondition.lean ====
/- What the precondition says of the arguments: index words below eight, and finite norms, signs and codes. -/
module

public import proofs.«01_k».proof.Pre_finite_and_indexed
public import proofs.«01_k».proof.Proof.Consts
public import Idealize.ShloMosaic.Lib.Pointwise
public import Idealize.ShloMosaic.Lib.Tactic.WordOmega

@[expose] public section

set_option maxRecDepth 16384

noncomputable section

namespace Cert.Pre_finite_and_indexed

open Idealize.ShloMosaic

/-- The predicate's side conditions hold. -/
theorem facts : Facts := ⟨by decide, by decide, by decide, by decide⟩

/-- A value whose magnitude is below infinity is a real number. -/
theorem real_of_lt (x : EReal) (h : max x (-x) < ⊤) : ∃ r : ℝ, x = ((r : ℝ) : EReal) := by
  induction x with
  | bot => simp at h
  | coe r => exact ⟨r, rfl⟩
  | top => simp at h

/-- A comparison of a magnitude with infinity that came out true. -/
theorem real_of_bit (x : EReal) (h : FloatOps.cmpf (F := Ideal) (φ := .f32) .olt (max x (-x)) ⊤ = 1#1) :
    ∃ r : ℝ, x = ((r : ℝ) : EReal) := by
  refine real_of_lt x ?_
  by_contra hn
  revert h
  show ¬ (BitVec.ofBool (decide (max x (-x) < ⊤)) = 1#1)
  rw [decide_eq_false hn]
  decide

/-- A word that is at least zero and below eight, read signed, is a number below eight. -/
theorem word_of_bits (w : BitVec 32) (h0 : IntOp.cmpi .sge w 0#32 = 1#1) (h8 : IntOp.cmpi .slt w 8#32 = 1#1) :
    ∃ k : Fin 8, w = BitVec.ofNat 32 k.val := by
  have hw : w.toNat < 8 := by
    word_omega
  exact ⟨⟨w.toNat, hw⟩, by rw [BitVec.ofNat_toNat, BitVec.setWidth_eq]⟩

variable [Facts] (a0 : FVec Ideal S4x4096x4096 .f32) (a1 : IVec S131072x128 32) (a2 : FVec Ideal S4096x32 .f32)
  (a3 a4 : FVec Ideal S128 .f32) (a5 : FVec Ideal S8 .f32) (a6 : FVec Ideal S4096 .f32)

theorem words (h0 : (fn a0 a1 a2 a3 a4 a5 a6).1 = fun _ => 1#1) (h8 : (fn a0 a1 a2 a3 a4 a5 a6).2.1 = fun _ => 1#1)
    (i : S131072x128.Idx) : ∃ k : Fin 8, a1 i = BitVec.ofNat 32 k.val :=
  word_of_bits (a1 i) (congrFun h0 i) (congrFun h8 i)

theorem norms (h : (fn a0 a1 a2 a3 a4 a5 a6).2.2.1 = fun _ => 1#1) (i : S4096x32.Idx) : ∃ r : ℝ, a2 i = ((r : ℝ) : EReal) :=
  real_of_bit (a2 i) (by rw [← Consts.word_inf]; exact congrFun h i)

theorem signs1 (h : (fn a0 a1 a2 a3 a4 a5 a6).2.2.2.1 = fun _ => 1#1) (i : S128.Idx) : ∃ r : ℝ, a3 i = ((r : ℝ) : EReal) :=
  real_of_bit (a3 i) (by rw [← Consts.word_inf]; exact congrFun h i)

theorem signs2 (h : (fn a0 a1 a2 a3 a4 a5 a6).2.2.2.2.1 = fun _ => 1#1) (i : S128.Idx) : ∃ r : ℝ, a4 i = ((r : ℝ) : EReal) :=
  real_of_bit (a4 i) (by rw [← Consts.word_inf]; exact congrFun h i)

theorem codes (h : (fn a0 a1 a2 a3 a4 a5 a6).2.2.2.2.2 = fun _ => 1#1) (i : S8.Idx) : ∃ r : ℝ, a5 i = ((r : ℝ) : EReal) :=
  real_of_bit (a5 i) (by rw [← Consts.word_inf]; exact congrFun h i)

end Cert.Pre_finite_and_indexed

end
-- ==== Proof.Claims.lean ====
/- The value claim: from arguments the precondition admits, the kernel and the reference end with one result array. -/
module

public import proofs.«01_k».proof.Defs
public import proofs.«01_k».proof.Proof.Run
public import proofs.«01_k».proof.Proof.Equation
public import proofs.«01_k».proof.Proof.Precondition

@[expose] public section

noncomputable section

namespace Cert.Claims

open Idealize.ShloMosaic Idealize.ShloMosaic.TcCoe Idealize.SL.Sem

/-- The two result arrays are one, where the precondition holds and the arguments agree. -/
theorem result_eq (hpre : Cert.Pre_finite_and_indexed.Facts)
    (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (h : Cert.Pre_KernelIdeal_finite_and_indexed (hPre_finite_and_indexed := hpre) m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (StableHlo.after Cert.ReferenceIdeal.Pieces.tail (Cert.ReferenceIdeal.Pieces.at8 (StableHlo.launchContents m' c))
        (Proc.devRef .tc Cert.ReferenceIdeal.main_v80) : FVec Ideal Cert.KernelIdeal.S4x4096x4096 .f32)
      = Cert.KernelIdeal.Gen.W5 m g c (Proc.devRef .tc Cert.KernelIdeal.main_v17) := by
  obtain ⟨p0, p8, pn, p3, p4, p5⟩ := h c
  funext i
  obtain ⟨b, s, n, rfl⟩ : ∃ (b : Fin 4) (s n : Fin 4096), (i : Cert.KernelIdeal.S4x4096x4096.Idx) = ix3 b s n :=
    ⟨i 0, i 1, i 2, eq_ix3 i⟩
  refine (Cert.ReferenceIdeal.Result.result_apply m' c b s n).trans ?_
  rw [e0, e1, e2, e3, e4, e5, e6]
  exact (Cert.Equation.value_eq _ _ _ _ _ _ _ (Cert.Pre_finite_and_indexed.words _ _ _ _ _ _ _ p0 p8)
    (Cert.Pre_finite_and_indexed.norms _ _ _ _ _ _ _ pn) (Cert.Pre_finite_and_indexed.signs1 _ _ _ _ _ _ _ p3)
    (Cert.Pre_finite_and_indexed.signs2 _ _ _ _ _ _ _ p4) (Cert.Pre_finite_and_indexed.codes _ _ _ _ _ _ _ p5) b s n).symm.trans
    (Cert.KernelIdeal.Result.result_apply m g c b s n).symm

/-- The value claim. -/
theorem algebraic (hpre : Cert.Pre_finite_and_indexed.Facts) :
    Cert.algebraic_KernelIdeal_ReferenceIdeal_pre_finite_and_indexed (hKernelIdeal := Cert.KernelIdeal.Gen.facts)
      (hReferenceIdeal := Cert.ReferenceIdeal.Gen.facts) (hPre_finite_and_indexed := hpre) := by
  intro m g m' g' h e
  refine ⟨fun c => Cert.KernelIdeal.Gen.W5 m g c (Proc.devRef .tc Cert.KernelIdeal.main_v17),
    Cert.KernelIdeal.Run.run m g,
    (θ_run Cert.ReferenceIdeal.defs _ _).mono (fun r hr c => ?_) (Cert.ReferenceIdeal.Result.run m' g')⟩
  obtain ⟨e0, e1, e2, e3, e4, e5, e6⟩ := e c
  exact ⟨(hr c).1.trans (result_eq hpre m g m' h c e0 e1 e2 e3 e4 e5 e6), (hr c).2⟩

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and every counter at zero: it has no semaphores. -/
theorem frame_reference : Cert.quiescent_ReferenceIdeal (hReferenceIdeal := Cert.ReferenceIdeal.Gen.facts) :=
  fun m ρ _ => (θ_run Cert.ReferenceIdeal.defs _ _).mono (fun r h => ⟨fun c => (h c).2,
      Idealize.ShloMosaic.sem_eq_zero_of_no_sems (by decide) r.2⟩)
    (Cert.ReferenceIdeal.Result.run m ρ)

theorem claim : Cert.Claim :=
  ⟨Cert.Kernel.Gen.facts, Cert.KernelIdeal.Gen.facts, Cert.ReferenceIdeal.Gen.facts, Cert.Pre_finite_and_indexed.facts,
    fun m ρ _ => Cert.Kernel.Gen.frame m ρ,
    fun m ρ _ => Cert.KernelIdeal.Gen.frame m ρ,
    fun m ρ _ => Cert.KernelIdeal.Gen.frame m ρ,
    fun m ρ _ => frame_reference m ρ trivial,
    fun m ρ _ => frame_reference m ρ trivial,
    trivial,
    Cert.Claims.algebraic Cert.Pre_finite_and_indexed.facts⟩

end Cert.Proof

end
